-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lanes_hold_the_nine_best [hPre_lanes_hold_the_nine_best : Cert.Pre_lanes_hold_the_nine_best.Facts] (m : (ℓ : Loc Cert.KernelIdeal.nD Cert.KernelIdeal.τ Cert.KernelIdeal.sig) → Buf (Elt Ideal) ℓ) : Prop :=
  ∀ c : Dev Cert.KernelIdeal.nD,
    (Cert.Pre_lanes_hold_the_nine_best.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_lanes_hold_the_nine_best.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lanes_hold_the_nine_best [hPre_lanes_hold_the_nine_best : Cert.Pre_lanes_hold_the_nine_best.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lanes_hold_the_nine_best.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_lanes_hold_the_nine_best.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_lanes_hold_the_nine_best [hKernelIdeal : Cert.KernelIdeal.Facts] [hPre_lanes_hold_the_nine_best : Cert.Pre_lanes_hold_the_nine_best.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lanes_hold_the_nine_best m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_lanes_hold_the_nine_best [hReferenceIdeal : Cert.ReferenceIdeal.Facts] [hPre_lanes_hold_the_nine_best : Cert.Pre_lanes_hold_the_nine_best.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lanes_hold_the_nine_best m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_lanes_hold_the_nine_best [hKernelIdeal : Cert.KernelIdeal.Facts] [hReferenceIdeal : Cert.ReferenceIdeal.Facts] [hPre_lanes_hold_the_nine_best : Cert.Pre_lanes_hold_the_nine_best.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lanes_hold_the_nine_best m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_lanes_hold_the_nine_best : Cert.Pre_lanes_hold_the_nine_best.Facts),
    quiescent_Kernel (hKernel := hKernel)
    ∧ quiescent_KernelIdeal (hKernelIdeal := hKernelIdeal)
    ∧ quiescent_KernelIdeal_pre_lanes_hold_the_nine_best (hKernelIdeal := hKernelIdeal) (hPre_lanes_hold_the_nine_best := hPre_lanes_hold_the_nine_best)
    ∧ quiescent_ReferenceIdeal (hReferenceIdeal := hReferenceIdeal)
    ∧ quiescent_ReferenceIdeal_pre_lanes_hold_the_nine_best (hReferenceIdeal := hReferenceIdeal) (hPre_lanes_hold_the_nine_best := hPre_lanes_hold_the_nine_best)
    ∧ preserves_Kernel_KernelIdeal
    ∧ algebraic_KernelIdeal_ReferenceIdeal_pre_lanes_hold_the_nine_best (hKernelIdeal := hKernelIdeal) (hReferenceIdeal := hReferenceIdeal) (hPre_lanes_hold_the_nine_best := hPre_lanes_hold_the_nine_best)
-- ==== Pre_lanes_hold_the_nine_best.lean ====
abbrev S1024x32 : Shape := ⟨2, ![1024, 32]⟩
abbrev S100000x32 : Shape := ⟨2, ![100000, 32]⟩
abbrev S100000 : Shape := ⟨1, ![100000]⟩
abbrev S_ : Shape := ⟨0, ![]⟩
abbrev S1024 : Shape := ⟨1, ![1024]⟩
abbrev S1024x1 : Shape := ⟨2, ![1024, 1]⟩
abbrev S32x100000 : Shape := ⟨2, ![32, 100000]⟩
abbrev S1024x100000 : Shape := ⟨2, ![1024, 100000]⟩
abbrev S1024x9 : Shape := ⟨2, ![1024, 9]⟩
abbrev S1024x100352 : Shape := ⟨2, ![1024, 100352]⟩
abbrev S1024x49x2048 : Shape := ⟨3, ![1024, 49, 2048]⟩
abbrev S1024x2048 : Shape := ⟨2, ![1024, 2048]⟩

class Facts : Prop where
  reducesTo_S1024x32_S1024_d1 : S1024x32.ReducesTo [1] S1024
  h_S_ : 0 < S_.numel
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  transposes_S100000x32_S32x100000_1_0 : S100000x32.Transposes [1, 0] S32x100000
  sliceFits_S1024x100000_S1024x9 : S1024x100000.Slices (fun _ => 0) S1024x9
  slices_S1024x9_S1024x1_0_8 : S1024x9.Slices ![0, 8] S1024x1
  bcast_S1024x1_S1024x100000_0_1 : S1024x1.BroadcastsInDim S1024x100000 (![0, 1] : Fin 2 → Fin S1024x100000.rank)
  natLt_1_32 : 1 < 32
  pads_S1024x100000_S1024x100352_000_03520 : S1024x100000.Pads (![0, 0] : Fin 2 → Nat) ![0, 352] ![0, 0] S1024x100352
  shapeCasts_S1024x100352_S1024x49x2048 : S1024x100352.ShapeCasts S1024x49x2048
  reducesTo_S1024x49x2048_S1024x2048_d1 : S1024x49x2048.ReducesTo [1] S1024x2048
  bcast_S_S1024x1 : S_.BroadcastsInDim S1024x1 (![] : Fin 0 → Fin S1024x1.rank)
  bcast_S_S1024x2048 : S_.BroadcastsInDim S1024x2048 (![] : Fin 0 → Fin S1024x2048.rank)
  bcast_S1024x1_S1024x2048_0_1 : S1024x1.BroadcastsInDim S1024x2048 (![0, 1] : Fin 2 → Fin S1024x2048.rank)
  dot_S1024x32_S32x100000_S1024x100000_1_0_0_1_n_n_wf : DotDims.WF S1024x32 S32x100000 S1024x100000 [1] [0] [0] [1] [] []

variable [Facts]

def dot_S1024x32_S32x100000_S1024x100000_1_0_0_1_n_n : DotDims S1024x32 S32x100000 S1024x100000 where
  lhsContracting := [1]
  rhsContracting := [0]
  lhsNonContracting := [0]
  rhsNonContracting := [1]
  lhsBatch := []
  rhsBatch := []
  wf := dot_S1024x32_S32x100000_S1024x100000_1_0_0_1_n_n_wf
def fn_norm {F : FTy → Type} [FloatOps F] (arg0 : FVec F S1024x32 .f32) : FVec F S1024x1 .f32 :=
  let v0 : FVec F S1024x32 .f32 := mulf arg0 arg0
  let cst : FVec F S_ .f32 := constant S_ .f32 0x00000000#32
  let v1 : FVec F S1024 .f32 := (fun x v => Host.reduceAdd x v reducesTo_S1024x32_S1024_d1 h_S_) v0 cst
  let v2 : FVec F S1024x1 .f32 := broadcastInDim S1024x1 ![0] bcast_S1024_S1024x1_0 v1
  let v3 : FVec F S1024x1 .f32 := Host.sqrt v2
  v3

def fn_pad {F : FTy → Type} [FloatOps F] (arg0 : IVec S1024x100000 32) (arg1 : IVec S_ 32) : IVec S1024x100352 32 :=
  let v0 : IVec S_ 32 := id arg1
  let v1 : IVec S1024x100352 32 := (fun x v => pad S1024x100352 ![0, 0] ![0, 352] ![0, 0] x v pads_S1024x100000_S1024x100352_000_03520 h_S_) arg0 v0
  v1

def fn_part1 {F : FTy → Type} [FloatOps F] (main_arg1 : FVec F S1024x32 .f32) (main_arg3 : FVec F S100000x32 .f32) (main_v17 : IVec S1024x2048 1) : IVec S1024x2048 1 × IVec S1024x2048 1 :=
  let main_v18 : FVec F S1024x1 .f32 := fn_norm (F := F) main_arg1
  let main_v19 : FVec F S1024x32 .f32 := broadcastInDim S1024x32 ![0, 1] bcast_S1024x1_S1024x32_0_1 main_v18
  let main_v20 : FVec F S1024x32 .f32 := Host.divf main_arg1 main_v19
  let main_v21 : FVec F S32x100000 .f32 := (transpose S32x100000 [1, 0] · transposes_S100000x32_S32x100000_1_0) main_arg3
  let main_v22 : FVec F S1024x100000 .f32 := (fun l r => Host.dotGeneral dot_S1024x32_S32x100000_S1024x100000_1_0_0_1_n_n none l r) main_v20 main_v21
  let main_values_2 : FVec F S1024x9 .f32 := (fun x => (Host.topK S1024x9 1 (FloatOps.cmpfTotal .gt) x sliceFits_S1024x100000_S1024x9).1) main_v22
  let main_indices_3 : IVec S1024x9 32 := (fun x => (Host.topK S1024x9 1 (FloatOps.cmpfTotal .gt) x sliceFits_S1024x100000_S1024x9).2) main_v22
  let main_v23 : FVec F S1024x1 .f32 := (extractStridedSlice S1024x1 ![0, 8] · slices_S1024x9_S1024x1_0_8) main_values_2
  let main_v24 : FVec F S1024x100000 .f32 := broadcastInDim S1024x100000 ![0, 1] bcast_S1024x1_S1024x100000_0_1 main_v23
  let main_v25 : IVec S1024x100000 1 := cmpf .oge main_v22 main_v24
  let main_v26 : IVec S1024x100000 32 := (extui 32 · natLt_1_32) main_v25
  let main_c_4 : IVec S_ 32 := constantI S_ 32 0#32
  let main_v27 : IVec S1024x100352 32 := fn_pad (F := F) main_v26 main_c_4
  let main_v28 : IVec S1024x49x2048 32 := shapeCast S1024x49x2048 main_v27 shapeCasts_S1024x100352_S1024x49x2048
  let main_c_5 : IVec S_ 32 := constantI S_ 32 0#32
  let main_v29 : IVec S1024x2048 32 := (fun x v => Host.reduce IntOp.addi x v reducesTo_S1024x49x2048_S1024x2048_d1 h_S_) main_v28 main_c_5
  let main_cst_6 : FVec F S_ .f32 := constant S_ .f32 0x00000000#32
  let main_v30 : FVec F S1024x1 .f32 := broadcastInDim S1024x1 ![] bcast_S_S1024x1 main_cst_6
  let main_v31 : IVec S1024x1 1 := cmpf .ogt main_v23 main_v30
  let main_c_7 : IVec S_ 32 := constantI S_ 32 3#32
  let main_v32 : IVec S1024x2048 32 := broadcastInDim S1024x2048 ![] bcast_S_S1024x2048 main_c_7
  let main_v33 : IVec S1024x2048 1 := cmpi .sle main_v29 main_v32
  let main_v34 : IVec S1024x2048 1 := broadcastInDim S1024x2048 ![0, 1] bcast_S1024x1_S1024x2048_0_1 main_v31
  let main_v35 : IVec S1024x2048 1 := andi main_v34 main_v33
  (main_v17, main_v35)

def fn {F : FTy → Type} [FloatOps F] (main_arg0 : FVec F S1024x32 .f32) (main_arg1 : FVec F S1024x32 .f32) (main_arg2 : FVec F S100000x32 .f32) (main_arg3 : FVec F S100000x32 .f32) (main_arg4 : FVec F S100000 .f32) : IVec S1024x2048 1 × IVec S1024x2048 1 :=
  let main_v0 : FVec F S1024x1 .f32 := fn_norm (F := F) main_arg0
  let main_v1 : FVec F S1024x32 .f32 := broadcastInDim S1024x32 ![0, 1] bcast_S1024x1_S1024x32_0_1 main_v0
  let main_v2 : FVec F S1024x32 .f32 := Host.divf main_arg0 main_v1
  let main_v3 : FVec F S32x100000 .f32 := (transpose S32x100000 [1, 0] · transposes_S100000x32_S32x100000_1_0) main_arg2
  let main_v4 : FVec F S1024x100000 .f32 := (fun l r => Host.dotGeneral dot_S1024x32_S32x100000_S1024x100000_1_0_0_1_n_n none l r) main_v2 main_v3
  let main_values : FVec F S1024x9 .f32 := (fun x => (Host.topK S1024x9 1 (FloatOps.cmpfTotal .gt) x sliceFits_S1024x100000_S1024x9).1) main_v4
  let main_indices : IVec S1024x9 32 := (fun x => (Host.topK S1024x9 1 (FloatOps.cmpfTotal .gt) x sliceFits_S1024x100000_S1024x9).2) main_v4
  let main_v5 : FVec F S1024x1 .f32 := (extractStridedSlice S1024x1 ![0, 8] · slices_S1024x9_S1024x1_0_8) main_values
  let main_v6 : FVec F S1024x100000 .f32 := broadcastInDim S1024x100000 ![0, 1] bcast_S1024x1_S1024x100000_0_1 main_v5
  let main_v7 : IVec S1024x100000 1 := cmpf .oge main_v4 main_v6
  let main_v8 : IVec S1024x100000 32 := (extui 32 · natLt_1_32) main_v7
  let main_c : IVec S_ 32 := constantI S_ 32 0#32
  let main_v9 : IVec S1024x100352 32 := fn_pad (F := F) main_v8 main_c
  let main_v10 : IVec S1024x49x2048 32 := shapeCast S1024x49x2048 main_v9 shapeCasts_S1024x100352_S1024x49x2048
  let main_c_0 : IVec S_ 32 := constantI S_ 32 0#32
  let main_v11 : IVec S1024x2048 32 := (fun x v => Host.reduce IntOp.addi x v reducesTo_S1024x49x2048_S1024x2048_d1 h_S_) main_v10 main_c_0
  let main_cst : FVec F S_ .f32 := constant S_ .f32 0x00000000#32
  let main_v12 : FVec F S1024x1 .f32 := broadcastInDim S1024x1 ![] bcast_S_S1024x1 main_cst
  let main_v13 : IVec S1024x1 1 := cmpf .ogt main_v5 main_v12
  let main_c_1 : IVec S_ 32 := constantI S_ 32 3#32
  let main_v14 : IVec S1024x2048 32 := broadcastInDim S1024x2048 ![] bcast_S_S1024x2048 main_c_1
  let main_v15 : IVec S1024x2048 1 := cmpi .sle main_v11 main_v14
  let main_v16 : IVec S1024x2048 1 := broadcastInDim S1024x2048 ![0, 1] bcast_S1024x1_S1024x2048_0_1 main_v13
  let main_v17 : IVec S1024x2048 1 := andi main_v16 main_v15
  fn_part1 (F := F) main_arg1 main_arg3 main_v17
-- ==== Kernel.lean ====
abbrev S1024x32 : Shape := ⟨2, ![1024, 32]⟩
abbrev S100000x32 : Shape := ⟨2, ![100000, 32]⟩
abbrev S100000 : Shape := ⟨1, ![100000]⟩
abbrev S_ : Shape := ⟨0, ![]⟩
abbrev S1024 : Shape := ⟨1, ![1024]⟩
abbrev S1024x1 : Shape := ⟨2, ![1024, 1]⟩
abbrev S1x1024x32 : Shape := ⟨3, ![1, 1024, 32]⟩
abbrev S2x1024x32 : Shape := ⟨3, ![2, 1024, 32]⟩
abbrev S102400x32 : Shape := ⟨2, ![102400, 32]⟩
abbrev S1x102400x32 : Shape := ⟨3, ![1, 102400, 32]⟩
abbrev S2x102400x32 : Shape := ⟨3, ![2, 102400, 32]⟩
abbrev S2x1024x16 : Shape := ⟨3, ![2, 1024, 16]⟩
abbrev S2x1024x9 : Shape := ⟨3, ![2, 1024, 9]⟩
abbrev S1x1024x9 : Shape := ⟨3, ![1, 1024, 9]⟩
abbrev S1024x9 : Shape := ⟨2, ![1024, 9]⟩
abbrev S1024x9x1 : Shape := ⟨3, ![1024, 9, 1]⟩
abbrev S1 : Shape := ⟨1, ![1]⟩
abbrev S1x1x1 : Shape := ⟨3, ![1, 1, 1]⟩
abbrev S1024x9x2 : Shape := ⟨3, ![1024, 9, 2]⟩
abbrev S1024x18 : Shape := ⟨2, ![1024, 18]⟩
abbrev S1x256x32 : Shape := ⟨3, ![1, 256, 32]⟩
abbrev S1x4096x32 : Shape := ⟨3, ![1, 4096, 32]⟩
abbrev S1x256x16 : Shape := ⟨3, ![1, 256, 16]⟩
abbrev S256x2048 : Shape := ⟨2, ![256, 2048]⟩
abbrev S256x32 : Shape := ⟨2, ![256, 32]⟩
abbrev S4096x32 : Shape := ⟨2, ![4096, 32]⟩
abbrev S256x4096 : Shape := ⟨2, ![256, 4096]⟩
abbrev S256x6144 : Shape := ⟨2, ![256, 6144]⟩
abbrev S256 : Shape := ⟨1, ![256]⟩
abbrev S256x1 : Shape := ⟨2, ![256, 1]⟩
abbrev S256x7 : Shape := ⟨2, ![256, 7]⟩
abbrev S256x16 : Shape := ⟨2, ![256, 16]⟩

abbrev nBuf : Space → Nat
  | .hbm => 93
  | .vmem => 12
  | .smem => 0
  | _ => 0

abbrev bufTy : (tb : Table) → Fin (tcTables nBuf tb) → BufTy
  | .hbm, ⟨0, _⟩ => ⟨S1024x32, .f32⟩
  | .hbm, ⟨1, _⟩ => ⟨S1024x32, .f32⟩
  | .hbm, ⟨2, _⟩ => ⟨S100000x32, .f32⟩
  | .hbm, ⟨3, _⟩ => ⟨S100000x32, .f32⟩
  | .hbm, ⟨4, _⟩ => ⟨S100000, .f32⟩
  | .hbm, ⟨5, _⟩ => ⟨S1024x32, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x1, .f32⟩
  | .hbm, ⟨10, _⟩ => ⟨S1024x32, .f32⟩
  | .hbm, ⟨11, _⟩ => ⟨S1024x32, .f32⟩
  | .hbm, ⟨12, _⟩ => ⟨S1024x32, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x1, .f32⟩
  | .hbm, ⟨17, _⟩ => ⟨S1024x32, .f32⟩
  | .hbm, ⟨18, _⟩ => ⟨S1024x32, .f32⟩
  | .hbm, ⟨19, _⟩ => ⟨S1x1024x32, .f32⟩
  | .hbm, ⟨20, _⟩ => ⟨S1x1024x32, .f32⟩
  | .hbm, ⟨21, _⟩ => ⟨S2x1024x32, .f32⟩
  | .hbm, ⟨22, _⟩ => ⟨S2x1024x32, .bf16⟩
  | .hbm, ⟨23, _⟩ => ⟨S_, .i32⟩
  | .hbm, ⟨24, _⟩ => ⟨S_, .f32⟩
  | .hbm, ⟨25, _⟩ => ⟨S102400x32, .f32⟩
  | .hbm, ⟨26, _⟩ => ⟨S_, .i32⟩
  | .hbm, ⟨27, _⟩ => ⟨S_, .f32⟩
  | .hbm, ⟨28, _⟩ => ⟨S102400x32, .f32⟩
  | .hbm, ⟨29, _⟩ => ⟨S1x102400x32, .f32⟩
  | .hbm, ⟨30, _⟩ => ⟨S1x102400x32, .f32⟩
  | .hbm, ⟨31, _⟩ => ⟨S2x102400x32, .f32⟩
  | .hbm, ⟨32, _⟩ => ⟨S2x102400x32, .bf16⟩
  | .hbm, ⟨33, _⟩ => ⟨S2x1024x16, .f32⟩
  | .hbm, ⟨34, _⟩ => ⟨S2x1024x9, .f32⟩
  | .hbm, ⟨35, _⟩ => ⟨S2x1024x9, .i32⟩
  | .hbm, ⟨36, _⟩ => ⟨S1x1024x9, .i32⟩
  | .hbm, ⟨37, _⟩ => ⟨S1024x9, .i32⟩
  | .hbm, ⟨38, _⟩ => ⟨S_, .i32⟩
  | .hbm, ⟨39, _⟩ => ⟨S1024x9, .i32⟩
  | .hbm, ⟨40, _⟩ => ⟨S1024x9, .i1⟩
  | .hbm, ⟨41, _⟩ => ⟨S_, .i32⟩
  | .hbm, ⟨42, _⟩ => ⟨S1024x9, .i32⟩
  | .hbm, ⟨43, _⟩ => ⟨S1024x9, .i32⟩
  | .hbm, ⟨44, _⟩ => ⟨S1024x9, .i32⟩
  | .hbm, ⟨45, _⟩ => ⟨S1024x9x1, .i32⟩
  | .hbm, ⟨46, _⟩ => ⟨S1, .i32⟩
  | .hbm, ⟨47, _⟩ => ⟨S_, .i32⟩
  | .hbm, ⟨48, _⟩ => ⟨S1024x9x1, .i32⟩
  | .hbm, ⟨49, _⟩ => ⟨S1024x9x1, .i1⟩
  | .hbm, ⟨50, _⟩ => ⟨S1x1x1, .i32⟩
  | .hbm, ⟨51, _⟩ => ⟨S1024x9x1, .i32⟩
  | .hbm, ⟨52, _⟩ => ⟨S1024x9x1, .i1⟩
  | .hbm, ⟨53, _⟩ => ⟨S1024x9x1, .i1⟩
  | .hbm, ⟨54, _⟩ => ⟨S_, .i1⟩
  | .hbm, ⟨55, _⟩ => ⟨S1024x9, .i1⟩
  | .hbm, ⟨56, _⟩ => ⟨S1024x9, .f32⟩
  | .hbm, ⟨57, _⟩ => ⟨S_, .f32⟩
  | .hbm, ⟨58, _⟩ => ⟨S1024x9, .f32⟩
  | .hbm, ⟨59, _⟩ => ⟨S1024x9, .f32⟩
  | .hbm, ⟨60, _⟩ => ⟨S1x1024x9, .i32⟩
  | .hbm, ⟨61, _⟩ => ⟨S1024x9, .i32⟩
  | .hbm, ⟨62, _⟩ => ⟨S_, .i32⟩
  | .hbm, ⟨63, _⟩ => ⟨S1024x9, .i32⟩
  | .hbm, ⟨64, _⟩ => ⟨S1024x9, .i1⟩
  | .hbm, ⟨65, _⟩ => ⟨S_, .i32⟩
  | .hbm, ⟨66, _⟩ => ⟨S1024x9, .i32⟩
  | .hbm, ⟨67, _⟩ => ⟨S1024x9, .i32⟩
  | .hbm, ⟨68, _⟩ => ⟨S1024x9, .i32⟩
  | .hbm, ⟨69, _⟩ => ⟨S1024x9x1, .i32⟩
  | .hbm, ⟨70, _⟩ => ⟨S1, .i32⟩
  | .hbm, ⟨71, _⟩ => ⟨S_, .i32⟩
  | .hbm, ⟨72, _⟩ => ⟨S1024x9x1, .i32⟩
  | .hbm, ⟨73, _⟩ => ⟨S1024x9x1, .i1⟩
  | .hbm, ⟨74, _⟩ => ⟨S1x1x1, .i32⟩
  | .hbm, ⟨75, _⟩ => ⟨S1024x9x1, .i32⟩
  | .hbm, ⟨76, _⟩ => ⟨S1024x9x1, .i1⟩
  | .hbm, ⟨77, _⟩ => ⟨S1024x9x1, .i1⟩
  | .hbm, ⟨78, _⟩ => ⟨S_, .i1⟩
  | .hbm, ⟨79, _⟩ => ⟨S1024x9, .i1⟩
  | .hbm, ⟨80, _⟩ => ⟨S1024x9, .f32⟩
  | .hbm, ⟨81, _⟩ => ⟨S_, .f32⟩
  | .hbm, ⟨82, _⟩ => ⟨S1024x9, .f32⟩
  | .hbm, ⟨83, _⟩ => ⟨S1024x9, .f32⟩
  | .hbm, ⟨84, _⟩ => ⟨S1024x9x1, .f32⟩
  | .hbm, ⟨85, _⟩ => ⟨S1024x9x1, .f32⟩
  | .hbm, ⟨86, _⟩ => ⟨S1024x9x2, .f32⟩
  | .hbm, ⟨87, _⟩ => ⟨S1024x18, .f32⟩
  | .hbm, ⟨88, _⟩ => ⟨S_, .f32⟩
  | .hbm, ⟨89, _⟩ => ⟨S1024, .f32⟩
  | .hbm, ⟨90, _⟩ => ⟨S_, .f32⟩
  | .hbm, ⟨91, _⟩ => ⟨S1024, .f32⟩
  | .hbm, ⟨92, _⟩ => ⟨S1024, .f32⟩
  | .local _ .vmem, ⟨0, _⟩ => ⟨S1x256x32, .bf16⟩
  | .local _ .vmem, ⟨1, _⟩ => ⟨S1x256x32, .bf16⟩
  | .local _ .vmem, ⟨2, _⟩ => ⟨S1x4096x32, .bf16⟩
  | .local _ .vmem, ⟨3, _⟩ => ⟨S1x4096x32, .bf16⟩
  | .local _ .vmem, ⟨4, _⟩ => ⟨S1x256x16, .f32⟩
  | .local _ .vmem, ⟨5, _⟩ => ⟨S1x256x16, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_v0 : Ref sig .tc := ⟨.hbm, 5, rfl⟩
abbrev main_call0_call0_cst : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_call1_v0 : Ref sig .tc := ⟨.hbm, 12, rfl⟩
abbrev main_call0_call1_cst : Ref sig .tc := ⟨.hbm, 13, rfl⟩
abbrev main_call0_call1_v1 : Ref sig .tc := ⟨.hbm, 14, rfl⟩
abbrev main_call0_call1_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_call2_v0 : Ref sig .tc := ⟨.hbm, 24, rfl⟩
abbrev main_call0_v10 : Ref sig .tc := ⟨.hbm, 25, rfl⟩
abbrev main_call0_c_0 : Ref sig .tc := ⟨.hbm, 26, rfl⟩
abbrev main_call0_call3_v0 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_call4_c : Ref sig .tc := ⟨.hbm, 38, rfl⟩
abbrev main_call0_call4_v0 : Ref sig .tc := ⟨.hbm, 39, rfl⟩
abbrev main_call0_call4_v1 : Ref sig .tc := ⟨.hbm, 40, rfl⟩
abbrev main_call0_call4_c_0 : Ref sig .tc := ⟨.hbm, 41, rfl⟩
abbrev main_call0_call4_v2 : Ref sig .tc := ⟨.hbm, 42, rfl⟩
abbrev main_call0_call4_v3 : Ref sig .tc := ⟨.hbm, 43, rfl⟩
abbrev main_call0_call4_v4 : Ref sig .tc := ⟨.hbm, 44, rfl⟩
abbrev main_call0_call4_v5 : Ref sig .tc := ⟨.hbm, 45, rfl⟩
abbrev main_call0_call4_c_1 : Ref sig .tc := ⟨.hbm, 46, rfl⟩
abbrev main_call0_call4_c_2 : Ref sig .tc := ⟨.hbm, 47, rfl⟩
abbrev main_call0_call4_v6 : Ref sig .tc := ⟨.hbm, 48, rfl⟩
abbrev main_call0_call4_v7 : Ref sig .tc := ⟨.hbm, 49, rfl⟩
abbrev main_call0_call4_v8 : Ref sig .tc := ⟨.hbm, 50, rfl⟩
abbrev main_call0_call4_v9 : Ref sig .tc := ⟨.hbm, 51, rfl⟩
abbrev main_call0_call4_v10 : Ref sig .tc := ⟨.hbm, 52, rfl⟩
abbrev main_call0_call4_v11 : Ref sig .tc := ⟨.hbm, 53, rfl⟩
abbrev main_call0_call4_c_3 : Ref sig .tc := ⟨.hbm, 54, rfl⟩
abbrev main_call0_call4_v12 : Ref sig .tc := ⟨.hbm, 55, rfl⟩
abbrev main_call0_call4_v13 : Ref sig .tc := ⟨.hbm, 56, rfl⟩
abbrev main_call0_call4_cst : Ref sig .tc := ⟨.hbm, 57, rfl⟩
abbrev main_call0_call4_v14 : Ref sig .tc := ⟨.hbm, 58, rfl⟩
abbrev main_call0_v21 : Ref sig .tc := ⟨.hbm, 59, rfl⟩
abbrev main_call0_v22 : Ref sig .tc := ⟨.hbm, 60, rfl⟩
abbrev main_call0_v23 : Ref sig .tc := ⟨.hbm, 61, rfl⟩
abbrev main_call0_call5_c : Ref sig .tc := ⟨.hbm, 62, rfl⟩
abbrev main_call0_call5_v0 : Ref sig .tc := ⟨.hbm, 63, rfl⟩
abbrev main_call0_call5_v1 : Ref sig .tc := ⟨.hbm, 64, rfl⟩
abbrev main_call0_call5_c_0 : Ref sig .tc := ⟨.hbm, 65, rfl⟩
abbrev main_call0_call5_v2 : Ref sig .tc := ⟨.hbm, 66, rfl⟩
abbrev main_call0_call5_v3 : Ref sig .tc := ⟨.hbm, 67, rfl⟩
abbrev main_call0_call5_v4 : Ref sig .tc := ⟨.hbm, 68, rfl⟩
abbrev main_call0_call5_v5 : Ref sig .tc := ⟨.hbm, 69, rfl⟩
abbrev main_call0_call5_c_1 : Ref sig .tc := ⟨.hbm, 70, rfl⟩
abbrev main_call0_call5_c_2 : Ref sig .tc := ⟨.hbm, 71, rfl⟩
abbrev main_call0_call5_v6 : Ref sig .tc := ⟨.hbm, 72, rfl⟩
abbrev main_call0_call5_v7 : Ref sig .tc := ⟨.hbm, 73, rfl⟩
abbrev main_call0_call5_v8 : Ref sig .tc := ⟨.hbm, 74, rfl⟩
abbrev main_call0_call5_v9 : Ref sig .tc := ⟨.hbm, 75, rfl⟩
abbrev main_call0_call5_v10 : Ref sig .tc := ⟨.hbm, 76, rfl⟩
abbrev main_call0_call5_v11 : Ref sig .tc := ⟨.hbm, 77, rfl⟩
abbrev main_call0_call5_c_3 : Ref sig .tc := ⟨.hbm, 78, rfl⟩
abbrev main_call0_call5_v12 : Ref sig .tc := ⟨.hbm, 79, rfl⟩
abbrev main_call0_call5_v13 : Ref sig .tc := ⟨.hbm, 80, rfl⟩
abbrev main_call0_call5_cst : Ref sig .tc := ⟨.hbm, 81, rfl⟩
abbrev main_call0_call5_v14 : Ref sig .tc := ⟨.hbm, 82, rfl⟩
abbrev main_call0_v24 : Ref sig .tc := ⟨.hbm, 83, rfl⟩
abbrev main_call0_v25 : Ref sig .tc := ⟨.hbm, 84, rfl⟩
abbrev main_call0_v26 : Ref sig .tc := ⟨.hbm, 85, rfl⟩
abbrev main_call0_v27 : Ref sig .tc := ⟨.hbm, 86, rfl⟩
abbrev main_v0_1 : Ref sig .tc := ⟨.hbm, 87, rfl⟩
abbrev main_call0_cst : Ref sig .tc := ⟨.hbm, 88, rfl⟩
abbrev main_call0_v29 : Ref sig .tc := ⟨.hbm, 89, rfl⟩
abbrev main_call0_cst_1 : Ref sig .tc := ⟨.hbm, 90, rfl⟩
abbrev main_call0_v30 : Ref sig .tc := ⟨.hbm, 91, rfl⟩
abbrev main_v0_0 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 25], ![false, false, false]⟩

def k0_cond2 (i : grid0.Coords) : BitVec 1 :=
  let arg2 : BitVec 32 := BitVec.ofNat 32 (i 2).val
  let c24_i32 : BitVec 32 := 24#32
  let v67 : BitVec 1 := Scalar.cmpi .eq arg2 c24_i32
  let v68 : BitVec 32 := Scalar.extui v67
  let c0_i32_31 : BitVec 32 := 0#32
  let v69 : BitVec 1 := Scalar.cmpi .ne v68 c0_i32_31
  v69

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIdeal.lean ====
abbrev S1024x32 : Shape := ⟨2, ![1024, 32]⟩
abbrev S100000x32 : Shape := ⟨2, ![100000, 32]⟩
abbrev S100000 : Shape := ⟨1, ![100000]⟩
abbrev S_ : Shape := ⟨0, ![]⟩
abbrev S1024 : Shape := ⟨1, ![1024]⟩
abbrev S1024x1 : Shape := ⟨2, ![1024, 1]⟩
abbrev S32x100000 : Shape := ⟨2, ![32, 100000]⟩
abbrev S1024x100000 : Shape := ⟨2, ![1024, 100000]⟩
abbrev S1024x9 : Shape := ⟨2, ![1024, 9]⟩
abbrev S1024x9x1 : Shape := ⟨3, ![1024, 9, 1]⟩
abbrev S1 : Shape := ⟨1, ![1]⟩
abbrev S1x1x1 : Shape := ⟨3, ![1, 1, 1]⟩
abbrev S1024x9x2 : Shape := ⟨3, ![1024, 9, 2]⟩
abbrev S1024x18 : Shape := ⟨2, ![1024, 18]⟩

abbrev nBuf : Space → Nat
  | .hbm => 80
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S1024x32, .f32⟩
  | .hbm, ⟨2, _⟩ => ⟨S100000x32, .f32⟩
  | .hbm, ⟨3, _⟩ => ⟨S100000x32, .f32⟩
  | .hbm, ⟨4, _⟩ => ⟨S100000, .f32⟩
  | .hbm, ⟨5, _⟩ => ⟨S1024x32, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x1, .f32⟩
  | .hbm, ⟨10, _⟩ => ⟨S1024x32, .f32⟩
  | .hbm, ⟨11, _⟩ => ⟨S1024x32, .f32⟩
  | .hbm, ⟨12, _⟩ => ⟨S32x100000, .f32⟩
  | .hbm, ⟨13, _⟩ => ⟨S1024x100000, .f32⟩
  | .hbm, ⟨14, _⟩ => ⟨S1024x9, .f32⟩
  | .hbm, ⟨15, _⟩ => ⟨S1024x9, .i32⟩
  | .hbm, ⟨16, _⟩ => ⟨S1024x32, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S1024x1, .f32⟩
  | .hbm, ⟨21, _⟩ => ⟨S1024x32, .f32⟩
  | .hbm, ⟨22, _⟩ => ⟨S1024x32, .f32⟩
  | .hbm, ⟨23, _⟩ => ⟨S32x100000, .f32⟩
  | .hbm, ⟨24, _⟩ => ⟨S1024x100000, .f32⟩
  | .hbm, ⟨25, _⟩ => ⟨S1024x9, .f32⟩
  | .hbm, ⟨26, _⟩ => ⟨S1024x9, .i32⟩
  | .hbm, ⟨27, _⟩ => ⟨S_, .i32⟩
  | .hbm, ⟨28, _⟩ => ⟨S1024x9, .i32⟩
  | .hbm, ⟨29, _⟩ => ⟨S1024x9, .i1⟩
  | .hbm, ⟨30, _⟩ => ⟨S_, .i32⟩
  | .hbm, ⟨31, _⟩ => ⟨S1024x9, .i32⟩
  | .hbm, ⟨32, _⟩ => ⟨S1024x9, .i32⟩
  | .hbm, ⟨33, _⟩ => ⟨S1024x9, .i32⟩
  | .hbm, ⟨34, _⟩ => ⟨S1024x9x1, .i32⟩
  | .hbm, ⟨35, _⟩ => ⟨S1, .i32⟩
  | .hbm, ⟨36, _⟩ => ⟨S_, .i32⟩
  | .hbm, ⟨37, _⟩ => ⟨S1024x9x1, .i32⟩
  | .hbm, ⟨38, _⟩ => ⟨S1024x9x1, .i1⟩
  | .hbm, ⟨39, _⟩ => ⟨S1x1x1, .i32⟩
  | .hbm, ⟨40, _⟩ => ⟨S1024x9x1, .i32⟩
  | .hbm, ⟨41, _⟩ => ⟨S1024x9x1, .i1⟩
  | .hbm, ⟨42, _⟩ => ⟨S1024x9x1, .i1⟩
  | .hbm, ⟨43, _⟩ => ⟨S_, .i1⟩
  | .hbm, ⟨44, _⟩ => ⟨S1024x9, .i1⟩
  | .hbm, ⟨45, _⟩ => ⟨S1024x9, .f32⟩
  | .hbm, ⟨46, _⟩ => ⟨S_, .f32⟩
  | .hbm, ⟨47, _⟩ => ⟨S1024x9, .f32⟩
  | .hbm, ⟨48, _⟩ => ⟨S1024x9, .f32⟩
  | .hbm, ⟨49, _⟩ => ⟨S_, .i32⟩
  | .hbm, ⟨50, _⟩ => ⟨S1024x9, .i32⟩
  | .hbm, ⟨51, _⟩ => ⟨S1024x9, .i1⟩
  | .hbm, ⟨52, _⟩ => ⟨S_, .i32⟩
  | .hbm, ⟨53, _⟩ => ⟨S1024x9, .i32⟩
  | .hbm, ⟨54, _⟩ => ⟨S1024x9, .i32⟩
  | .hbm, ⟨55, _⟩ => ⟨S1024x9, .i32⟩
  | .hbm, ⟨56, _⟩ => ⟨S1024x9x1, .i32⟩
  | .hbm, ⟨57, _⟩ => ⟨S1, .i32⟩
  | .hbm, ⟨58, _⟩ => ⟨S_, .i32⟩
  | .hbm, ⟨59, _⟩ => ⟨S1024x9x1, .i32⟩
  | .hbm, ⟨60, _⟩ => ⟨S1024x9x1, .i1⟩
  | .hbm, ⟨61, _⟩ => ⟨S1x1x1, .i32⟩
  | .hbm, ⟨62, _⟩ => ⟨S1024x9x1, .i32⟩
  | .hbm, ⟨63, _⟩ => ⟨S1024x9x1, .i1⟩
  | .hbm, ⟨64, _⟩ => ⟨S1024x9x1, .i1⟩
  | .hbm, ⟨65, _⟩ => ⟨S_, .i1⟩
  | .hbm, ⟨66, _⟩ => ⟨S1024x9, .i1⟩
  | .hbm, ⟨67, _⟩ => ⟨S1024x9, .f32⟩
  | .hbm, ⟨68, _⟩ => ⟨S_, .f32⟩
  | .hbm, ⟨69, _⟩ => ⟨S1024x9, .f32⟩
  | .hbm, ⟨70, _⟩ => ⟨S1024x9, .f32⟩
  | .hbm, ⟨71, _⟩ => ⟨S1024x9x1, .f32⟩
  | .hbm, ⟨72, _⟩ => ⟨S1024x9x1, .f32⟩
  | .hbm, ⟨73, _⟩ => ⟨S1024x9x2, .f32⟩
  | .hbm, ⟨74, _⟩ => ⟨S1024x18, .f32⟩
  | .hbm, ⟨75, _⟩ => ⟨S_, .f32⟩
  | .hbm, ⟨76, _⟩ => ⟨S1024, .f32⟩
  | .hbm, ⟨77, _⟩ => ⟨S_, .f32⟩
  | .hbm, ⟨78, _⟩ => ⟨S1024, .f32⟩
  | .hbm, ⟨79, _⟩ => ⟨S1024, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_values : Ref sig .tc := ⟨.hbm, 14, rfl⟩
abbrev main_indices : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_values_0 : Ref sig .tc := ⟨.hbm, 25, rfl⟩
abbrev main_indices_1 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v10 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_cst : Ref sig .tc := ⟨.hbm, 68, rfl⟩
abbrev main_call3_v14 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_cst : Ref sig .tc := ⟨.hbm, 75, rfl⟩
abbrev main_v16 : Ref sig .tc := ⟨.hbm, 76, rfl⟩
abbrev main_cst_2 : Ref sig .tc := ⟨.hbm, 77, rfl⟩
abbrev main_v17 : Ref sig .tc := ⟨.hbm, 78, rfl⟩
abbrev main_v18 : Ref sig .tc := ⟨.hbm, 79, rfl⟩

abbrev nD : Nat := 1
abbrev τ : Topo := Topo.v7x

variable {F : FTy → Type} [FloatOps F]
-- ==== Proof.Lanes.lean ====
/-
  One lane of the running top three.

  The kernel keeps, for every query and every lane, the three best (score, block) pairs it has seen. A step brings two more pairs
  into a lane: they are sorted, and merged with the three by compare-and-exchange. This file says what such a step does to the
  lane as a list of pairs, and what the three hold after any number of steps.
-/
module

public import Idealize.ShloMosaic.Lib.SortFacts
public import Idealize.ShloMosaic.PureOps.Ideal

@[expose] public section

noncomputable section

namespace Cert.Lanes

/-- A score with the number of the block it was found in. -/
abbrev Pair := EReal × EReal

/-- The better of two pairs by score; the first on a tie. -/
def better (p q : Pair) : Pair := if q.1 ≤ p.1 then p else q

/-- The pair `better` leaves. -/
def worse (p q : Pair) : Pair := if q.1 ≤ p.1 then q else p

/-- The merge step: three pairs in descending order take in two more. -/
def step (S : Pair × Pair × Pair) (x y : Pair) : Pair × Pair × Pair :=
  (better S.1 (better x y),
   better (worse S.1 (better x y)) (better S.2.1 (worse x y)),
   better (worse (worse S.1 (better x y)) (better S.2.1 (worse x y))) (better S.2.2 (worse S.2.1 (worse x y))))

/-- The better and the worse of two pairs are the two pairs, in some order. -/
theorem better_worse_perm (p q : Pair) : [better p q, worse p q].Perm [p, q] := by
  unfold better worse
  split
  · exact List.Perm.refl _
  · exact List.Perm.swap _ _ _

/-- The better pair's score is the greater score. -/
theorem better_fst (p q : Pair) : (better p q).1 = max p.1 q.1 := by
  unfold better
  split
  · rename_i h; exact (max_eq_left h).symm
  · rename_i h; exact (max_eq_right (le_of_not_ge h)).symm

/-- The worse pair's score is the lesser score. -/
theorem worse_fst (p q : Pair) : (worse p q).1 = min p.1 q.1 := by
  unfold worse
  split
  · rename_i h; exact (min_eq_right h).symm
  · rename_i h; exact (min_eq_left (le_of_not_ge h)).symm

/-- The three are in descending order and, with pairs none of which beats the third, make up the list `L`. -/
def Holds (S : Pair × Pair × Pair) (L : List Pair) : Prop :=
  S.2.1.1 ≤ S.1.1 ∧ S.2.2.1 ≤ S.2.1.1 ∧ ∃ D : List Pair, ([S.1, S.2.1, S.2.2] ++ D).Perm L ∧ ∀ d ∈ D, d.1 ≤ S.2.2.1

/-- Two pairs at the head of a list may be put in the other order. -/
theorem two_perm {a b c d : Pair} {r : List Pair} (h : [a, b].Perm [c, d]) : (a :: b :: r).Perm (c :: d :: r) :=
  h.append_right r

/-- A merge step keeps the invariant, for the list with the two new pairs in it. -/
theorem holds_step {S : Pair × Pair × Pair} {L : List Pair} (h : Holds S L) (x y : Pair) : Holds (step S x y) (x :: y :: L) := by
  obtain ⟨h12, h23, D, hD, hle⟩ := h
  obtain ⟨m1, m2, m3⟩ := S
  dsimp only at h12 h23 hD hle
  have e1 := better_worse_perm x y
  generalize hb : better x y = hi at e1
  generalize hw : worse x y = lo at e1
  have hlohi : lo.1 ≤ hi.1 := by rw [← hb, ← hw, better_fst, worse_fst]; exact min_le_max
  have e2 := better_worse_perm m1 hi
  have e3 := better_worse_perm m2 lo
  have f1 := better_fst m1 hi
  have g1 := worse_fst m1 hi
  have f2 := better_fst m2 lo
  have g2 := worse_fst m2 lo
  have hstep : step (m1, m2, m3) x y = (better m1 hi, better (worse m1 hi) (better m2 lo),
      better (worse (worse m1 hi) (better m2 lo)) (better m3 (worse m2 lo))) := by
    unfold step; rw [hb, hw]
  rw [hstep]
  generalize better m1 hi = a1 at *
  generalize worse m1 hi = b1 at *
  generalize better m2 lo = a2 at *
  generalize worse m2 lo = b2 at *
  have e4 := better_worse_perm b1 a2
  have f3 := better_fst b1 a2
  have g3 := worse_fst b1 a2
  have e5 := better_worse_perm m3 b2
  have f4 := better_fst m3 b2
  have g4 := worse_fst m3 b2
  generalize better b1 a2 = s2 at *
  generalize worse b1 a2 = t1 at *
  generalize better m3 b2 = t2 at *
  generalize worse m3 b2 = d2 at *
  have e6 := better_worse_perm t1 t2
  have f5 := better_fst t1 t2
  have g5 := worse_fst t1 t2
  generalize better t1 t2 = s3 at *
  generalize worse t1 t2 = d1 at *
  have hb1 : b1.1 ≤ a1.1 := by rw [f1, g1]; exact min_le_max
  have ha2 : a2.1 ≤ a1.1 := by rw [f1, f2]; exact max_le_max h12 hlohi
  have hb2 : b2.1 ≤ a2.1 := by rw [f2, g2]; exact min_le_max
  have hm3 : m3.1 ≤ a2.1 := by rw [f2]; exact le_max_of_le_left h23
  have ha2s : a2.1 ≤ s2.1 := by rw [f3]; exact le_max_right _ _
  have ht2 : t2.1 ≤ s2.1 := by rw [f4]; exact (max_le hm3 hb2).trans ha2s
  have ht1 : t1.1 ≤ s2.1 := by rw [f3, g3]; exact min_le_max
  refine ⟨?_, ?_, d1 :: d2 :: D, ?_, ?_⟩
  · dsimp only; rw [f3]; exact max_le hb1 ha2
  · dsimp only; rw [f5]; exact max_le ht1 ht2
  · dsimp only [List.cons_append, List.nil_append] at hD ⊢
    -- bring every exchange back, the last one first
    calc (a1 :: s2 :: s3 :: d1 :: d2 :: D).Perm (a1 :: s2 :: t1 :: t2 :: d2 :: D) := ((two_perm e6).cons _).cons _
      _ |>.Perm (a1 :: s2 :: t1 :: m3 :: b2 :: D) := (((two_perm e5).cons _).cons _).cons _
      _ |>.Perm (a1 :: b1 :: a2 :: m3 :: b2 :: D) := (two_perm e4).cons _
      _ |>.Perm (m1 :: hi :: a2 :: m3 :: b2 :: D) := two_perm e2
      _ |>.Perm (m1 :: hi :: a2 :: b2 :: m3 :: D) := ((((List.Perm.swap _ _ _)).cons _).cons _).cons _
      _ |>.Perm (m1 :: hi :: m2 :: lo :: m3 :: D) := ((two_perm e3).cons _).cons _
      _ |>.Perm (hi :: m1 :: m2 :: lo :: m3 :: D) := List.Perm.swap _ _ _
      _ |>.Perm (hi :: m1 :: lo :: m2 :: m3 :: D) := ((List.Perm.swap _ _ _).cons _).cons _
      _ |>.Perm (hi :: lo :: m1 :: m2 :: m3 :: D) := (List.Perm.swap _ _ _).cons _
      _ |>.Perm (x :: y :: m1 :: m2 :: m3 :: D) := two_perm e1
      _ |>.Perm (x :: y :: L) := (hD.cons _).cons _
  · intro d hd
    dsimp only
    have hs3 : t2.1 ≤ s3.1 := by rw [f5]; exact le_max_right _ _
    have hmt : m3.1 ≤ t2.1 := by rw [f4]; exact le_max_left _ _
    rcases List.mem_cons.mp hd with rfl | hd
    · rw [f5, g5]; exact min_le_max
    rcases List.mem_cons.mp hd with rfl | hd
    · rw [g4]; exact ((min_le_left _ _).trans hmt).trans hs3
    · exact ((hle d hd).trans hmt).trans hs3

/-- The lane after `k` steps, over the scores `sc` of its rows: step `k` brings in rows `2 k` and `2 k + 1`. The lane starts with
    three fillers, of score `z` and block 0. -/
def lane (z : EReal) (sc : ℕ → EReal) : ℕ → Pair × Pair × Pair
  | 0 => ((z, 0), (z, 0), (z, 0))
  | k + 1 => step (lane z sc k) (sc (2 * k), ((2 * k : ℕ) : EReal)) (sc (2 * k + 1), ((2 * k + 1 : ℕ) : EReal))

/-- The pairs a lane has met after `k` steps: its rows, and the fillers. -/
def met (z : EReal) (sc : ℕ → EReal) : ℕ → List Pair
  | 0 => [(z, 0), (z, 0), (z, 0)]
  | k + 1 => (sc (2 * k), ((2 * k : ℕ) : EReal)) :: (sc (2 * k + 1), ((2 * k + 1 : ℕ) : EReal)) :: met z sc k

/-- After any number of steps a lane holds the three best of the pairs it has met. -/
theorem holds_lane (z : EReal) (sc : ℕ → EReal) (k : ℕ) : Holds (lane z sc k) (met z sc k) := by
  induction k with
  | zero => exact ⟨le_rfl, le_rfl, [], by simp [lane, met], by simp⟩
  | succ k ih => exact holds_step ih _ _

/-- A pair met whose score reaches `θ`, a bar above the fillers, is a row's. -/
theorem mem_met_iff (z : EReal) (sc : ℕ → EReal) (θ : EReal) (hz : z < θ) (k : ℕ) (p : Pair) (hp : θ ≤ p.1) :
    p ∈ met z sc k ↔ ∃ r < 2 * k, p = (sc r, ((r : ℕ) : EReal)) := by
  induction k with
  | zero =>
    simp only [met, List.mem_cons, List.not_mem_nil, or_false, or_self, Nat.mul_zero, Nat.not_lt_zero, false_and, exists_false, iff_false]
    rintro rfl
    exact absurd hp (not_le.mpr hz)
  | succ k ih =>
    rw [met, List.mem_cons, List.mem_cons, ih]
    constructor
    · rintro (rfl | rfl | ⟨r, hr, rfl⟩)
      · exact ⟨2 * k, by omega, rfl⟩
      · exact ⟨2 * k + 1, by omega, rfl⟩
      · exact ⟨r, by omega, rfl⟩
    · rintro ⟨r, hr, rfl⟩
      rcases Nat.lt_or_ge r (2 * k) with h | h
      · exact .inr (.inr ⟨r, h, rfl⟩)
      · rcases (show r = 2 * k ∨ r = 2 * k + 1 by omega) with rfl | rfl
        · exact .inl rfl
        · exact .inr (.inl rfl)

/-- The pairs met that reach the bar are as many as the rows that reach it. -/
theorem countP_met (z : EReal) (sc : ℕ → EReal) (θ : EReal) (hz : z < θ) (k : ℕ) :
    (met z sc k).countP (fun p => decide (θ ≤ p.1)) = ((Finset.range (2 * k)).filter fun r => θ ≤ sc r).card := by
  induction k with
  | zero => simp [met, not_le.mpr hz]
  | succ k ih =>
    rw [met, List.countP_cons, List.countP_cons, ih, show 2 * (k + 1) = 2 * k + 1 + 1 by ring, Finset.range_add_one,
      Finset.filter_insert, Finset.range_add_one, Finset.filter_insert]
    have h1 : ∀ P : ℕ → Prop, ∀ [DecidablePred P], 2 * k ∉ (Finset.range (2 * k)).filter P := fun P _ => by simp
    by_cases ha : θ ≤ sc (2 * k) <;> by_cases hb : θ ≤ sc (2 * k + 1) <;> simp [ha, hb]

/-- Where at most three rows of the lane reach the bar, the three kept pairs that reach it are exactly those rows. -/
theorem kept_iff (z : EReal) (sc : ℕ → EReal) (θ : EReal) (hz : z < θ) (k : ℕ)
    (hc : ((Finset.range (2 * k)).filter fun r => θ ≤ sc r).card ≤ 3) (p : Pair) (hp : θ ≤ p.1) :
    (p = (lane z sc k).1 ∨ p = (lane z sc k).2.1 ∨ p = (lane z sc k).2.2) ↔ ∃ r < 2 * k, p = (sc r, ((r : ℕ) : EReal)) := by
  rw [← mem_met_iff z sc θ hz k p hp]
  obtain ⟨h12, h23, D, hD, hle⟩ := holds_lane z sc k
  rw [← countP_met z sc θ hz k] at hc
  rw [← hD.mem_iff]
  rw [← hD.countP_eq] at hc
  generalize lane z sc k = S at *
  obtain ⟨m1, m2, m3⟩ := S
  dsimp only at *
  simp only [List.cons_append, List.nil_append, List.mem_cons]
  constructor
  · rintro (h | h | h)
    · exact .inl h
    · exact .inr (.inl h)
    · exact .inr (.inr (.inl h))
  · rintro (h | h | h | h)
    · exact .inl h
    · exact .inr (.inl h)
    · exact .inr (.inr h)
    · exfalso
      have h3 : θ ≤ m3.1 := hp.trans (hle p h)
      have h2 : θ ≤ m2.1 := h3.trans h23
      have h1 : θ ≤ m1.1 := h2.trans h12
      have hpos : 0 < D.countP (fun p => decide (θ ≤ p.1)) := List.countP_pos_iff.mpr ⟨p, h, by simpa using hp⟩
      simp only [List.cons_append, List.nil_append, List.countP_cons, h1, h2, h3, decide_true, if_true] at hc
      omega

end Cert.Lanes

end
-- ==== Proof.Step.lean ====
/-
  One point of the grid: its scores, and the merge of them into the six scratches.
-/
module

public import proofs.«01_k».proof.Proof.Gen.KernelIdeal.Frame
public import proofs.«01_k».proof.Proof.Lanes
public import Idealize.ShloMosaic.Lib.Pointwise
public import Idealize.ShloMosaic.Lib.Pipeline.ValueKit
public import Idealize.ShloMosaic.Lib.Pipeline.ReadBack
@[expose] public section

set_option maxRecDepth 16384

noncomputable section
namespace Cert.Step
open Idealize.ShloMosaic Idealize.ShloMosaic.Tactic Cert.KernelIdeal Cert.KernelIdeal.Gen

/-- The product of row `q` of a block of queries with row `r` of a block of rows. -/
def score (x : Vec Ideal S1x256x32 .bf16) (y : Vec Ideal S1x4096x32 .bf16) (q : Fin 256) (r : Fin 4096) : EReal :=
  ∑ k : Fin 32, x (ix3 0 q k) * y (ix3 0 r k)

/-- Lane `c` of the first half of a block. -/
def lowRow (c : Fin 2048) : Fin 4096 := ⟨c.val, by omega⟩

/-- Lane `c` of the second half of a block. -/
def highRow (c : Fin 2048) : Fin 4096 := ⟨2048 + c.val, by omega⟩

/-- The scores of the lower half of a block. -/
theorem pay45_at (x y) (q : Fin 256) (c : Fin 2048) :
    k0_pay45 (F := Ideal) x y (ix2 q c) = score x y q (lowRow c) := by
  unfold k0_pay45 k0_pay44
  pointwise
  rfl

/-- The scores of the upper half of a block. -/
theorem pay46_at (x y) (q : Fin 256) (c : Fin 2048) :
    k0_pay46 (F := Ideal) x y (ix2 q c) = score x y q (highRow c) := by
  unfold k0_pay46 k0_pay44
  pointwise
  rfl

/-- The row number the lower half of a block is given: twice the block's number. -/
theorem pay47_eq (i : grid0.Coords) : k0_pay47 (F := Ideal) i = ((2 * (i 2).val : ℕ) : EReal) := by
  unfold k0_pay47
  pointwise
  have h : (i 2).val < 25 := (i 2).isLt
  have e : (Scalar.muli 2#32 (BitVec.ofNat 32 (i 2).val)).toInt = ((2 * (i 2).val : ℕ) : ℤ) := by
    generalize (i 2).val = n at h
    interval_cases n <;> rfl
  rw [e, Int.cast_natCast, EReal.coe_natCast]

/-- The row number the upper half of a block is given: one more than twice the block's number. -/
theorem pay48_eq (i : grid0.Coords) : k0_pay48 (F := Ideal) i = ((2 * (i 2).val + 1 : ℕ) : EReal) := by
  unfold k0_pay48
  rw [pay47_eq]
  pointwise
  push_cast
  rfl

/-- The better of two pairs, component by component. -/
theorem better_mk (a b a' b' : EReal) :
    Lanes.better (a, b) (a', b') = (if a' ≤ a then a else a', if a' ≤ a then b else b') := by
  unfold Lanes.better
  split <;> rfl

/-- The worse of two pairs, component by component. -/
theorem worse_mk (a b a' b' : EReal) :
    Lanes.worse (a, b) (a', b') = (if a' ≤ a then a' else a, if a' ≤ a then b' else b) := by
  unfold Lanes.worse
  split <;> rfl

/-- What a point stores in the six scratches at one place is the merge step on the three pairs they held there. -/
theorem step_at (i : grid0.Coords) (x : Vec Ideal S1x256x32 .bf16) (y : Vec Ideal S1x4096x32 .bf16)
   (m1 m2 m3 r1 r2 r3 : Vec Ideal S256x2048 .f32) (q : Fin 256) (c : Fin 2048) :
   ((k0_pay10 (k0_pay55 x y m1) (ix2 q c), k0_pay13 (k0_pay57 i x y m1 r1) (ix2 q c)),
    (k0_pay11 (k0_pay51 x y) m2 (k0_pay56 x y m1) (ix2 q c),
      k0_pay14 (k0_pay51 x y) (k0_pay53 i x y) m2 r2 (k0_pay56 x y m1) (k0_pay58 i x y m1 r1) (ix2 q c)),
    (k0_pay12 (k0_pay51 x y) m2 m3 (k0_pay56 x y m1) (ix2 q c),
      k0_pay15 (k0_pay51 x y) (k0_pay53 i x y) m2 m3 r2 r3 (k0_pay56 x y m1) (k0_pay58 i x y m1 r1) (ix2 q c)))
   = Lanes.step ((m1 (ix2 q c), r1 (ix2 q c)), (m2 (ix2 q c), r2 (ix2 q c)), (m3 (ix2 q c), r3 (ix2 q c)))
       (score x y q (lowRow c), ((2 * (i 2).val : ℕ) : EReal)) (score x y q (highRow c), ((2 * (i 2).val + 1 : ℕ) : EReal)) := by
  rw [← pay45_at, ← pay46_at, ← pay47_eq, ← pay48_eq]
  pointwise [k0_pay1, k0_pay2, k0_pay3, k0_pay4, k0_pay5, k0_pay6, k0_pay7, k0_pay8, k0_pay9, k0_pay10, k0_pay11, k0_pay12, k0_pay13, k0_pay14, k0_pay15,
    k0_pay49, k0_pay50, k0_pay51, k0_pay52, k0_pay53, k0_pay54, k0_pay55, k0_pay56, k0_pay57, k0_pay58]
  simp only [Lanes.step, better_mk, worse_mk]

end Cert.Step
-- ==== Proof.Hold.lean ====
/-
  What the six scratches hold at each lane after every point of a run.
-/
module

public import proofs.«01_k».proof.Proof.Step
@[expose] public section

set_option maxRecDepth 16384

noncomputable section
namespace Cert.Hold
open Idealize.ShloMosaic Idealize.ShloMosaic.Tactic Cert.KernelIdeal Cert.KernelIdeal.Gen Cert.Step

/-- The product of query `q` of half `b` with row `r` of that half's table. -/
def rowScore (Q : Vec Ideal S2x1024x32 .bf16) (D : Vec Ideal S2x102400x32 .bf16) (b : Fin 2) (q : Fin 1024) (r : ℕ) : EReal :=
  if h : r < 102400 then ∑ k : Fin 32, Q (ix3 b q k) * D (ix3 b ⟨r, h⟩ k) else 0

variable (m : (ℓ : Loc nD τ sig) → Buf (Elt Ideal) ℓ) (d : Dev nD)

/-- The half of the tables a point works on. -/
def half (t : Fin cfg0.N) : Fin 2 := ⟨t.val / 100, by have : cfg0.N = 200 := N_0; omega⟩

/-- The query a row of a point's block is. -/
def query (t : Fin cfg0.N) (q : Fin 256) : Fin 1024 := ⟨256 * (t.val / 25 % 4) + q.val, by omega⟩

/-- The row of the table a row of a point's block is. -/
def row (t : Fin cfg0.N) (r : Fin 4096) : Fin 102400 := ⟨4096 * (t.val % 25) + r.val, by omega⟩

/-- The three coordinates of a point: its half, its block of queries and its block of rows. -/
theorem coords_eq (t : Fin cfg0.N) : (grid0.coords t 0).val = t.val / 100 ∧ (grid0.coords t 1).val = t.val / 25 % 4 ∧ (grid0.coords t 2).val = t.val % 25 := by
  have ht : t.val < 200 := Nat.lt_of_lt_of_eq t.isLt N_0
  have e0 : (grid0.coords t 0).val = t.val / 100 % 2 := Pipeline.Grid.coords_val t 0 (by decide) rfl
  have e1 : (grid0.coords t 1).val = t.val / 25 % 4 := Pipeline.Grid.coords_val t 1 (by decide) rfl
  have e2 : (grid0.coords t 2).val = t.val / 1 % 25 := Pipeline.Grid.coords_val t 2 (by decide) rfl
  omega

/-- The block of queries a point reads. -/
theorem index0 : ∀ t : Fin cfg0.N, win0_0.index t = ![t.val / 100, t.val / 25 % 4, 0] := by decide +kernel

/-- The block of rows a point reads. -/
theorem index1 : ∀ t : Fin cfg0.N, win0_1.index t = ![t.val / 100, t.val % 25, 0] := by decide +kernel

/-- A point's block of queries, read off the array of queries. -/
theorem iblk0_at (t : Fin cfg0.N) (q : Fin 256) (k : Fin 32) :
    iblk m d 0 t (ix3 0 q k) = V m d main_call0_v9 (ix3 (half t) (query t q) k) := by
  blk_ext [iblk, index0, half, query]

/-- A point's block of rows, read off the array of rows. -/
theorem iblk1_at (t : Fin cfg0.N) (r : Fin 4096) (k : Fin 32) :
    iblk m d 1 t (ix3 0 r k) = V m d main_call0_v15 (ix3 (half t) (row t r) k) := by
  blk_ext [iblk, index1, half, row]

/-- The scores of a point, from the two arrays. -/
theorem score_iblk (t : Fin cfg0.N) (q : Fin 256) (r : Fin 4096) :
    score (iblk m d 0 t) (iblk m d 1 t) q r =
      rowScore (V m d main_call0_v9) (V m d main_call0_v15) (half t) (query t q) (4096 * (t.val % 25) + r.val) := by
  unfold score rowScore
  rw [dif_pos (by omega)]
  refine Finset.sum_congr rfl fun k _ => ?_
  rw [iblk0_at, iblk1_at]
  rfl

/-- The filler a lane starts from. -/
def filler : EReal := Ideal.ofBits .f32 0xC0400000#32

/-- What the six scratches hold at one place, as the three pairs of a lane. -/
def held (n : ℕ) (hn : n < cfg0.N) (q : Fin 256) (l : Fin 2048) : Lanes.Pair × Lanes.Pair × Lanes.Pair :=
  let o := outsAt0 m d n hn
  ((o.2.1 (ix2 q l), o.2.2.2.2.1 (ix2 q l)), (o.2.2.1 (ix2 q l), o.2.2.2.2.2.1 (ix2 q l)),
    (o.2.2.2.1 (ix2 q l), o.2.2.2.2.2.2 (ix2 q l)))

/-- The two pairs a point brings into a lane. -/
def bring (t : Fin cfg0.N) (q : Fin 256) (l : Fin 2048) (r : ℕ) : Lanes.Pair :=
  (rowScore (V m d main_call0_v9) (V m d main_call0_v15) (half t) (query t q) (2048 * r + l.val), (r : EReal))

/-- The two pairs a point merges into a lane: the row of the lower half of its block and the row of the upper half. -/
theorem brought (t : Fin cfg0.N) (q : Fin 256) (l : Fin 2048) :
    (score (iblk m d 0 t) (iblk m d 1 t) q (lowRow l), ((2 * (grid0.coords t 2).val : ℕ) : EReal)) = bring m d t q l (2 * (t.val % 25)) ∧
    (score (iblk m d 0 t) (iblk m d 1 t) q (highRow l), ((2 * (grid0.coords t 2).val + 1 : ℕ) : EReal)) =
      bring m d t q l (2 * (t.val % 25) + 1) := by
  have e := (coords_eq t).2.2
  rw [score_iblk, score_iblk]
  unfold bring lowRow highRow
  refine ⟨Prod.ext ?_ ?_, Prod.ext ?_ ?_⟩
  · show rowScore _ _ _ _ _ = rowScore _ _ _ _ _
    congr 1; ring
  · show Nat.cast _ = Nat.cast _
    rw [e]
  · show rowScore _ _ _ _ _ = rowScore _ _ _ _ _
    congr 1; ring
  · show Nat.cast _ = Nat.cast _
    rw [e]

/-- The scratches start from the filler and the number zero. -/
theorem fillers_at (q : Fin 256) (l : Fin 2048) :
    (k0_pay38 (F := Ideal) (ix2 q l) = filler ∧ k0_pay39 (F := Ideal) (ix2 q l) = filler ∧ k0_pay40 (F := Ideal) (ix2 q l) = filler) ∧
    k0_pay41 (F := Ideal) (ix2 q l) = 0 ∧ k0_pay42 (F := Ideal) (ix2 q l) = 0 ∧ k0_pay43 (F := Ideal) (ix2 q l) = 0 := by
  unfold filler
  pointwise [k0_pay38, k0_pay39, k0_pay40, k0_pay41, k0_pay42, k0_pay43]

/-- The first point of a run takes its two pairs into a lane of fillers. -/
theorem held_first (t : Fin cfg0.N) (h0 : t.val % 25 = 0) (q : Fin 256) (l : Fin 2048) :
    held m d t.val t.isLt q l = Lanes.step ((filler, 0), (filler, 0), (filler, 0))
      (bring m d t q l (2 * (t.val % 25))) (bring m d t q l (2 * (t.val % 25) + 1)) := by
  have h1 : ¬ t.val % 25 = 24 := by omega
  unfold held
  rw [outsAt0_A m d t h0 h1]
  frame_out
  rw [step_at, (brought m d t q l).1, (brought m d t q l).2]
  obtain ⟨⟨a1, a2, a3⟩, b1, b2, b3⟩ := fillers_at q l
  rw [a1, a2, a3, b1, b2, b3]

/-- Every later point takes its two pairs into what the point before left. -/
theorem held_next (t : Fin cfg0.N) (h0 : ¬ t.val % 25 = 0) (q : Fin 256) (l : Fin 2048) :
    held m d t.val t.isLt q l = Lanes.step (held m d (t.val - 1) (Nat.lt_of_le_of_lt (Nat.sub_le _ _) t.isLt) q l)
      (bring m d t q l (2 * (t.val % 25))) (bring m d t q l (2 * (t.val % 25) + 1)) := by
  by_cases h1 : t.val % 25 = 24
  · unfold held
    rw [outsAt0_C m d t h0 h1]
    frame_out
    simp only [read_unread_whole]
    rw [step_at, (brought m d t q l).1, (brought m d t q l).2]
  · unfold held
    rw [outsAt0_B m d t h0 h1]
    frame_out
    simp only [read_unread_whole]
    rw [step_at, (brought m d t q l).1, (brought m d t q l).2]

/-- After point `t` a lane of scratch is the lane of the run's first blocks, one step for each. -/
theorem held_eq (n : ℕ) : ∀ (hn : n < cfg0.N) (q : Fin 256) (l : Fin 2048),
    held m d n hn q l = Lanes.lane filler
      (fun r => rowScore (V m d main_call0_v9) (V m d main_call0_v15) (half ⟨n, hn⟩) (query ⟨n, hn⟩ q) (2048 * r + l.val))
      (n % 25 + 1) := by
  induction n with
  | zero =>
    intro hn q l
    exact (held_first m d ⟨0, hn⟩ rfl q l).trans rfl
  | succ n ih =>
    intro hn q l
    by_cases h0 : (n + 1) % 25 = 0
    · refine (held_first m d ⟨n + 1, hn⟩ h0 q l).trans ?_
      rw [h0]
      rfl
    · refine (held_next m d ⟨n + 1, hn⟩ h0 q l).trans ?_
      have hh : half ⟨n + 1, hn⟩ = half ⟨n, by omega⟩ := Fin.ext (by show (n + 1) / 100 = n / 100; omega)
      have hq : query ⟨n + 1, hn⟩ q = query ⟨n, by omega⟩ q :=
        Fin.ext (by show 256 * ((n + 1) / 25 % 4) + q.val = 256 * (n / 25 % 4) + q.val; omega)
      have hk : (n + 1) % 25 = n % 25 + 1 := by omega
      show Lanes.step (held m d n _ q l) (bring m d ⟨n + 1, hn⟩ q l (2 * ((n + 1) % 25))) (bring m d ⟨n + 1, hn⟩ q l (2 * ((n + 1) % 25) + 1)) = _
      rw [ih (by omega) q l, hk]
      unfold bring
      rw [hh, hq]
      rfl

end Cert.Hold
-- ==== Proof.OutRead.lean ====
/-
  The block a run writes, read off the run of the kernel.
-/
module

public import proofs.«01_k».proof.Proof.Hold
@[expose] public section

set_option maxRecDepth 16384

noncomputable section
namespace Cert.Final
open Idealize.ShloMosaic Idealize.ShloMosaic.Tactic Cert.KernelIdeal Cert.KernelIdeal.Gen Cert.Hold

variable (m : (ℓ : Loc nD τ sig) → Buf (Elt Ideal) ℓ) (d : Dev nD)

/-- The picks of a block, from what the six scratches hold. -/
def outV (a1 a2 a3 b1 b2 b3 : Vec Ideal S256x2048 .f32) : Vec Ideal S1x256x16 .f32 :=
  k0_pay16 (k0_pay18 b1 b2 b3) (k0_pay19 a1 a2 a3 b1 b2 b3)
    (k0_pay22 (k0_pay17 a1 a2 a3) (k0_pay18 b1 b2 b3) (k0_pay20 a1 a2 a3 b1 b2 b3))
    (k0_pay24 (k0_pay17 a1 a2 a3) (k0_pay18 b1 b2 b3) (k0_pay20 a1 a2 a3 b1 b2 b3))
    (k0_pay26 (k0_pay17 a1 a2 a3) (k0_pay18 b1 b2 b3) (k0_pay20 a1 a2 a3 b1 b2 b3))
    (k0_pay29 (k0_pay28 (k0_pay17 a1 a2 a3) (k0_pay18 b1 b2 b3) (k0_pay20 a1 a2 a3 b1 b2 b3)))
    (k0_pay31 (k0_pay18 b1 b2 b3) (k0_pay27 (k0_pay17 a1 a2 a3) (k0_pay18 b1 b2 b3) (k0_pay20 a1 a2 a3 b1 b2 b3))
      (k0_pay28 (k0_pay17 a1 a2 a3) (k0_pay18 b1 b2 b3) (k0_pay20 a1 a2 a3 b1 b2 b3)))
    (k0_pay33 (k0_pay18 b1 b2 b3) (k0_pay27 (k0_pay17 a1 a2 a3) (k0_pay18 b1 b2 b3) (k0_pay20 a1 a2 a3 b1 b2 b3))
      (k0_pay28 (k0_pay17 a1 a2 a3) (k0_pay18 b1 b2 b3) (k0_pay20 a1 a2 a3 b1 b2 b3)))
    (k0_pay35 (k0_pay18 b1 b2 b3) (k0_pay27 (k0_pay17 a1 a2 a3) (k0_pay18 b1 b2 b3) (k0_pay20 a1 a2 a3 b1 b2 b3))
      (k0_pay28 (k0_pay17 a1 a2 a3) (k0_pay18 b1 b2 b3) (k0_pay20 a1 a2 a3 b1 b2 b3)))
    (k0_pay36 (k0_pay18 b1 b2 b3) (k0_pay27 (k0_pay17 a1 a2 a3) (k0_pay18 b1 b2 b3) (k0_pay20 a1 a2 a3 b1 b2 b3))
      (k0_pay28 (k0_pay17 a1 a2 a3) (k0_pay18 b1 b2 b3) (k0_pay20 a1 a2 a3 b1 b2 b3)))
    (k0_pay37 (k0_pay18 b1 b2 b3) (k0_pay27 (k0_pay17 a1 a2 a3) (k0_pay18 b1 b2 b3) (k0_pay20 a1 a2 a3 b1 b2 b3))
      (k0_pay28 (k0_pay17 a1 a2 a3) (k0_pay18 b1 b2 b3) (k0_pay20 a1 a2 a3 b1 b2 b3)))

/-- The last point of a run writes the picks of what the scratches hold after its own step. -/
theorem out_eq (t : Fin cfg0.N) (h1 : t.val % 25 = 24) :
    (outsAt0 m d t.val t.isLt).1 = outV (outsAt0 m d t.val t.isLt).2.1 (outsAt0 m d t.val t.isLt).2.2.1
      (outsAt0 m d t.val t.isLt).2.2.2.1 (outsAt0 m d t.val t.isLt).2.2.2.2.1 (outsAt0 m d t.val t.isLt).2.2.2.2.2.1
      (outsAt0 m d t.val t.isLt).2.2.2.2.2.2 := by
  have h0 : ¬ t.val % 25 = 0 := by omega
  rw [outsAt0_C m d t h0 h1]
  frame_out
  unfold outV
  rfl

end Cert.Final
-- ==== Proof.Rounds.lean ====
/-
  The nine rounds of picks, and the order a stable descending sort gives.

  A round takes the greatest value left, picks the least number among the places that hold it, and strikes out every place of that
  number. This file shows that the rounds pick, one after the other, the numbers a stable descending sort of the scores puts first, as
  long as the places that reach the last pick's score are exactly the rows that reach it.
-/
module

public import Idealize.ShloMosaic.Lib.SortFacts
public import Idealize.ShloMosaic.PureOps.Ideal

@[expose] public section

noncomputable section

namespace Cert.Rounds

open Idealize.ShloMosaic

variable {n : ℕ}

/-- The greatest value. -/
def top (v : Fin n → EReal) : EReal := Finset.univ.fold max ⊥ v

/-- The least number among the places that hold the greatest value (`big` stands at the other places). -/
def pick (big : EReal) (num v : Fin n → EReal) : EReal := Finset.univ.fold min ⊤ fun p => if top v ≤ v p then num p else big

/-- The values with the picked number's places struck out. -/
def strike (big low : EReal) (num v : Fin n → EReal) : Fin n → EReal := fun p => if num p = pick big num v then low else v p

/-- The values before round `j`. -/
def left (big low : EReal) (num v : Fin n → EReal) : ℕ → Fin n → EReal
  | 0 => v
  | j + 1 => strike big low num (left big low num v j)

/-- No value exceeds the top. -/
theorem le_top (v : Fin n → EReal) (p : Fin n) : v p ≤ top v :=
  (Finset.le_fold_max _).mpr (.inr ⟨p, Finset.mem_univ _, le_rfl⟩)

/-- A bound on every value bounds the top. -/
theorem top_le {v : Fin n → EReal} {c : EReal} (h : ∀ p, v p ≤ c) : top v ≤ c :=
  (Finset.fold_max_le _).mpr ⟨bot_le, fun p _ => h p⟩

/-- The pick is `c` when a place at the top has number `c` and no place at the top has a smaller number. -/
theorem pick_eq (big : EReal) (num v : Fin n → EReal) (c : EReal) (hbig : c ≤ big) (p : Fin n) (hp : top v ≤ v p) (hn : num p = c)
    (h : ∀ p, top v ≤ v p → c ≤ num p) : pick big num v = c := by
  apply le_antisymm
  · refine (Finset.fold_min_le _).mpr (.inr ⟨p, Finset.mem_univ _, ?_⟩)
    rw [if_pos hp]; exact hn.le
  · refine (Finset.le_fold_min _).mpr ⟨_root_.le_top, fun p _ => ?_⟩
    split
    · rename_i hv; exact h p hv
    · exact hbig

variable {N : ℕ}

/-- `σ` lists the rows by descending score, equal scores by ascending row. -/
def Descends (s : Fin N → EReal) (σ : Fin N → Fin N) : Prop :=
  Function.Bijective σ ∧ ∀ i j, i < j → s (σ j) < s (σ i) ∨ (s (σ j) = s (σ i) ∧ σ i < σ j)

/-- The rounds' picks are the first rows of the descending list: if the places whose value reaches the score of row `σ ⟨k, hk⟩` hold
    exactly the rows that reach it, each with its number, then round `j ≤ k` picks row `σ j`'s number. -/
theorem pick_left (big low : EReal) (num v : Fin n → EReal) (s : Fin N → EReal) (σ : Fin N → Fin N) (hσ : Descends s σ)
    (k : ℕ) (hk : k < N) (hlow : low < s (σ ⟨k, hk⟩)) (hbig : ∀ r : Fin N, ((r.val : ℕ) : EReal) ≤ big)
    (hin : ∀ r, s (σ ⟨k, hk⟩) ≤ s r → ∃ p, v p = s r ∧ num p = ((r.val : ℕ) : EReal))
    (hout : ∀ p, s (σ ⟨k, hk⟩) ≤ v p → ∃ r : Fin N, v p = s r ∧ num p = ((r.val : ℕ) : EReal))
    (j : ℕ) (hj : j ≤ k) :
    pick big num (left big low num v j) = (((σ ⟨j, lt_of_le_of_lt hj hk⟩).val : ℕ) : EReal) := by
  obtain ⟨⟨hinj, hsurj⟩, hord⟩ := hσ
  have hmono : ∀ i j : Fin N, i ≤ j → s (σ j) ≤ s (σ i) := fun i j h => by
    rcases h.eq_or_lt with rfl | h
    · exact le_rfl
    · rcases hord i j h with h | h
      · exact h.le
      · exact h.1.le
  have hcast : ∀ a b : Fin N, ((a.val : ℕ) : EReal) = ((b.val : ℕ) : EReal) ↔ a = b := fun a b => by
    rw [Nat.cast_inj, Fin.val_inj]
  set θ := s (σ ⟨k, hk⟩) with hθ
  induction j using Nat.strong_induction_on with
  | _ j ih =>
    -- a place's value before round `j`: struck out if an earlier round picked its number, and else its own
    have hv : ∀ i, i ≤ j → ∀ p, (left big low num v i p = v p ∧ ∀ l : Fin N, l.val < i → num p ≠ (((σ l).val : ℕ) : EReal)) ∨
        (left big low num v i p = low) := by
      intro i
      induction i with
      | zero => intro _ p; exact .inl ⟨rfl, fun l hl => absurd hl (by omega)⟩
      | succ i ihi =>
        intro hi p
        rw [left, strike, ih i (by omega) (by omega)]
        by_cases hnum : num p = (((σ ⟨i, lt_of_le_of_lt (by omega) hk⟩).val : ℕ) : EReal)
        · exact .inr (if_pos hnum)
        · rw [if_neg hnum]
          rcases ihi (by omega) p with ⟨h1, h2⟩ | h
          · refine .inl ⟨h1, fun l hl => ?_⟩
            rcases Nat.lt_or_ge l.val i with h | h
            · exact h2 l h
            · have : l = ⟨i, lt_of_le_of_lt (by omega) hk⟩ := Fin.ext (by simp; omega)
              rw [this]; exact hnum
          · exact .inr h
    -- a place whose number no earlier round picked keeps its value
    have hkeep : ∀ i, i ≤ j → ∀ p, (∀ l : Fin N, l.val < i → num p ≠ (((σ l).val : ℕ) : EReal)) → left big low num v i p = v p := by
      intro i
      induction i with
      | zero => intro _ p _; rfl
      | succ i ihi =>
        intro hi p h
        rw [left, strike, ih i (by omega) (by omega), if_neg (h _ (Nat.lt_succ_self i)), ihi (by omega) p fun l hl => h l (by omega)]
    have hjN : j < N := lt_of_le_of_lt hj hk
    have hθj : θ ≤ s (σ ⟨j, hjN⟩) := hmono _ _ hj
    obtain ⟨p0, hp0, hn0⟩ := hin (σ ⟨j, hjN⟩) hθj
    have hleft0 : left big low num v j p0 = s (σ ⟨j, hjN⟩) := by
      rw [hkeep j le_rfl p0 fun l hl => ?_, hp0]
      rw [hn0, Ne, hcast]
      intro h
      have := hinj h
      rw [← this] at hl
      exact absurd hl (lt_irrefl _)
    -- a place that still reaches the bar holds a row of the list's rest
    have hrest : ∀ p, θ ≤ left big low num v j p → ∃ l : Fin N, j ≤ l.val ∧ left big low num v j p = s (σ l) ∧ num p = (((σ l).val : ℕ) : EReal) := by
      intro p hp
      rcases hv j le_rfl p with ⟨h1, h2⟩ | h
      · rw [h1] at hp ⊢
        obtain ⟨r, hr, hnr⟩ := hout p hp
        obtain ⟨l, rfl⟩ := hsurj r
        refine ⟨l, ?_, hr, hnr⟩
        by_contra hl
        exact h2 l (not_le.mp hl) hnr
      · rw [h] at hp; exact absurd hp (not_le.mpr hlow)
    have htop : top (left big low num v j) = s (σ ⟨j, hjN⟩) := by
      apply le_antisymm
      · refine top_le fun p => ?_
        by_cases hp : θ ≤ left big low num v j p
        · obtain ⟨l, hl, he, _⟩ := hrest p hp
          rw [he]; exact hmono _ _ hl
        · exact (not_le.mp hp).le.trans hθj
      · rw [← hleft0]; exact le_top _ _
    refine pick_eq _ _ _ _ (hbig _) p0 (by rw [htop, hleft0]) hn0 fun p hp => ?_
    rw [htop] at hp
    obtain ⟨l, hl, he, hnl⟩ := hrest p (hθj.trans hp)
    rw [hnl, Nat.cast_le]
    rcases (show (⟨j, hjN⟩ : Fin N) ≤ l from hl).eq_or_lt with h | h
    · rw [h]
    · rcases hord _ _ h with h' | h'
      · rw [he] at hp; exact absurd hp (not_le.mpr h')
      · exact (Fin.lt_def.mp h'.2).le

/-! ## The stable descending sort -/

/-- Insertion into a list of later positions keeps "descending score, then ascending position". -/
theorem pairwise_insert (s : Fin N → EReal) (a : Fin N) (l : List (Fin N)) (ha : ∀ b ∈ l, a < b)
    (hl : l.Pairwise fun b c => s c < s b ∨ (s c = s b ∧ b < c)) :
    (insertBefore (fun b c => decide (s c < s b)) a l).Pairwise fun b c => s c < s b ∨ (s c = s b ∧ b < c) := by
  induction l with
  | nil => exact List.pairwise_singleton _ _
  | cons b l ih =>
    rw [List.pairwise_cons] at hl
    unfold insertBefore
    split
    · rename_i h
      have h : s a < s b := by simpa using h
      refine List.pairwise_cons.mpr ⟨fun c hc => ?_, ih (fun c hc => ha c (List.mem_cons_of_mem _ hc)) hl.2⟩
      rcases List.mem_cons.mp ((perm_insertBefore _ a l).mem_iff.mp hc) with rfl | hc'
      · exact .inl h
      · exact hl.1 c hc'
    · rename_i h
      have h : s b ≤ s a := by simpa using h
      have key : ∀ c, a < c → s c ≤ s a → s c < s a ∨ (s c = s a ∧ a < c) := fun c hc hs =>
        hs.lt_or_eq.imp id fun e => ⟨e, hc⟩
      refine List.pairwise_cons.mpr ⟨fun c hc => ?_, List.pairwise_cons.mpr hl⟩
      rcases List.mem_cons.mp hc with rfl | hc'
      · exact key _ (ha _ (List.mem_cons_self ..)) h
      · refine key c (ha c hc) ?_
        rcases hl.1 c hc' with h' | h'
        · exact h'.le.trans h
        · exact h'.1.le.trans h

/-- A stable sort of ascending indices by descending value: a greater value comes first, and of equal values the smaller index. -/
theorem pairwise_sort (s : Fin N → EReal) (l : List (Fin N)) (hl : l.Pairwise (· < ·)) :
    (stableSort (fun b c => decide (s c < s b)) l).Pairwise fun b c => s c < s b ∨ (s c = s b ∧ b < c) := by
  induction l with
  | nil => exact List.Pairwise.nil
  | cons a l ih =>
    rw [List.pairwise_cons] at hl
    unfold stableSort
    exact pairwise_insert s a _ (fun b hb => hl.1 b ((perm_stableSort _ l).mem_iff.mp hb)) (ih hl.2)

/-- The stable sort by "greater score first" lists the rows by descending score, equal scores by ascending row. -/
theorem descends_sortedFrom (s : Fin N → EReal) : Descends s (sortedFrom fun b c => decide (s c < s b)) := by
  refine ⟨⟨sortedFrom_injective _, sortedFrom_surjective _⟩, fun i j hij => ?_⟩
  have hp := List.pairwise_iff_get.mp (pairwise_sort s (List.finRange N) (List.pairwise_lt_finRange N))
  exact hp (i.cast (length_sortPositions N _).symm) (j.cast (length_sortPositions N _).symm) hij

end Cert.Rounds

end
-- ==== Proof.Consts.lean ====
module

public import Idealize.ShloMosaic.Lib.Pointwise
@[expose] public section

/-
  The values of the constants the two programs print.
-/
namespace Cert.Consts
open Idealize.ShloMosaic

/-- The filler of the scratches is minus three. -/
theorem minus_three : Ideal.ofBits .f32 0xC0400000#32 = ((-3 : ℝ) : EReal) := by
  simp [Ideal.ofBits, Ideal.ieee, -EReal.coe_mul, -EReal.coe_neg]; norm_num

/-- The value a picked place is struck with is minus five. -/
theorem minus_five : Ideal.ofBits .f32 0xC0A00000#32 = ((-5 : ℝ) : EReal) := by
  simp [Ideal.ofBits, Ideal.ieee, -EReal.coe_mul, -EReal.coe_neg]; norm_num

/-- The number of a place that is not at the top is one thousand million. -/
theorem thousand_million : Ideal.ofBits .f32 0x4E6E6B28#32 = ((1000000000 : ℝ) : EReal) := by
  simp [Ideal.ofBits, Ideal.ieee, -EReal.coe_mul, -EReal.coe_neg]; norm_num

/-- The factor of a row's block is 2048. -/
theorem two_thousand_forty_eight : Ideal.ofBits .f32 0x45000000#32 = ((2048 : ℝ) : EReal) := by
  simp [Ideal.ofBits, Ideal.ieee, -EReal.coe_mul, -EReal.coe_neg]; norm_num

/-- A maximum starts from the least value. -/
theorem minus_infinity : Ideal.ofBits .f32 0xFF800000#32 = ⊥ := by
  simp [Ideal.ofBits, Ideal.ieee]

/-- A minimum starts from the greatest value. -/
theorem infinity : Ideal.ofBits .f32 0x7F800000#32 = ⊤ := by
  simp [Ideal.ofBits, Ideal.ieee]

end Cert.Consts
-- ==== Proof.Final.lean ====
/-
  The last point of a run: nine rounds of picking on the 6144 kept places, and the block they are written to.
-/
module

public import proofs.«01_k».proof.Proof.OutRead
public import proofs.«01_k».proof.Proof.Rounds
public import proofs.«01_k».proof.Proof.Consts
@[expose] public section

set_option maxRecDepth 16384

noncomputable section
namespace Cert.Final
open Idealize.ShloMosaic Idealize.ShloMosaic.Tactic Cert.KernelIdeal Cert.KernelIdeal.Gen Cert.Step Cert.Hold

/-- A row of 6144 places for each of the block's queries. -/
abbrev Wide := FVec Ideal S256x6144 .f32

/-- The number a place that is not at the top is given: one thousand million. -/
def big : EReal := Ideal.ofBits .f32 0x4E6E6B28#32

/-- The score a place is given once it has been picked. -/
def low : EReal := Ideal.ofBits .f32 0xC0A00000#32

/-- The largest score of each row, at every place of the row. -/
def topV (v : Wide) : Wide :=
  broadcastTo S256x6144 (shapeCast S256x1 (multiReduction .maximumf [1] S256 v 0xFF800000#32 reduces_S256x6144_S256 (.inl rfl) rfl)
    shapeCasts_S256_S256x1) broadcasts_S256x1_S256x6144

/-- The row numbers of the places at the top, `big` elsewhere. -/
def candV (num v : Wide) : Wide := select (cmpf .oge v (topV v)) num (broadcast S256x6144 (Scalar.ofBits .f32 0x4E6E6B28#32))

/-- The smallest of them. -/
def leastV (c : Wide) : FVec Ideal S256x1 .f32 :=
  shapeCast S256x1 (multiReduction .minimumf [1] S256 c 0x7F800000#32 reduces_S256x6144_S256 (.inl rfl) rfl) shapeCasts_S256_S256x1

/-- The scores with the picked row struck out. -/
def strikeV (num v : Wide) (p : FVec Ideal S256x1 .f32) : Wide :=
  select (cmpf .oeq num (broadcastTo S256x6144 p broadcasts_S256x1_S256x6144)) (broadcast S256x6144 (Scalar.ofBits .f32 0xC0A00000#32)) v

/-- Row `q` of the pick. -/
theorem leastV_at (num v : Wide) (q : Fin 256) :
    leastV (candV num v) (ix2 q 0) = Rounds.pick big (fun p => num (ix2 q p)) (fun p => v (ix2 q p)) := by
  unfold Rounds.pick Rounds.top big
  pointwise [leastV, candV, topV]
  rw [Consts.minus_infinity, Consts.infinity]

/-- Row `q`, place `p` of the scores after a pick. -/
theorem strikeV_at (num v : Wide) (q : Fin 256) (p : Fin 6144) :
    strikeV num v (leastV (candV num v)) (ix2 q p) = Rounds.strike big low (fun p => num (ix2 q p)) (fun p => v (ix2 q p)) p := by
  unfold Rounds.strike low
  rw [← leastV_at]
  generalize leastV (candV num v) = w
  pointwise [strikeV]

/-- The scores before round `j`. -/
def leftV (num v : Wide) : ℕ → Wide
  | 0 => v
  | j + 1 => strikeV num (leftV num v j) (leastV (candV num (leftV num v j)))

/-- Row `q` of the scores before round `j`. -/
theorem leftV_at (num v : Wide) (q : Fin 256) (j : ℕ) :
    (fun p => leftV num v j (ix2 q p)) = Rounds.left big low (fun p => num (ix2 q p)) (fun p => v (ix2 q p)) j := by
  induction j with
  | zero => rfl
  | succ j ih =>
    funext p
    show strikeV _ _ _ (ix2 q p) = Rounds.strike _ _ _ (Rounds.left big low (fun p => num (ix2 q p)) (fun p => v (ix2 q p)) j) p
    rw [strikeV_at, ih]

/-- The pick of round `j`. -/
def pickV (num v : Wide) (j : ℕ) : FVec Ideal S256x1 .f32 := leastV (candV num (leftV num v j))

/-- The pick of round `j` at a query is the pick the rounds make on that query's row of places. -/
theorem pickV_at (num v : Wide) (q : Fin 256) (j : ℕ) :
    pickV num v j (ix2 q 0) = Rounds.pick big (fun p => num (ix2 q p)) (Rounds.left big low (fun p => num (ix2 q p)) (fun p => v (ix2 q p)) j) := by
  unfold pickV
  rw [leastV_at, leftV_at]

/-- The nine picks side by side, and seven columns of zeros. -/
def nineV (p : ℕ → FVec Ideal S256x1 .f32) : Vec Ideal S1x256x16 .f32 :=
  shapeCast S1x256x16 (concatenate S256x16 1 [⟨S256x1, p 0⟩, ⟨S256x1, p 1⟩, ⟨S256x1, p 2⟩, ⟨S256x1, p 3⟩, ⟨S256x1, p 4⟩, ⟨S256x1, p 5⟩,
    ⟨S256x1, p 6⟩, ⟨S256x1, p 7⟩, ⟨S256x1, p 8⟩, ⟨S256x7, broadcast S256x7 (Scalar.ofBits (F := Ideal) .f32 0x00000000#32)⟩]
    concatenates_S256x1_S256x1_S256x1_S256x1_S256x1_S256x1_S256x1_S256x1_S256x1_S256x7_S256x16_d1) shapeCasts_S256x16_S1x256x16

/-- The block written is the nine picks made on the three kept scores and the three kept row numbers. -/
theorem outV_eq (a1 a2 a3 b1 b2 b3 : Vec Ideal S256x2048 .f32) :
    outV a1 a2 a3 b1 b2 b3 = nineV (pickV (k0_pay18 b1 b2 b3) (k0_pay17 a1 a2 a3)) := by
  rfl

/-- Column `j` of the block written is the pick of round `j`, for the first nine columns. -/
theorem nineV_at (p : ℕ → FVec Ideal S256x1 .f32) (q : Fin 256) (j : ℕ) (hj : j < 9) :
    nineV p (ix3 0 q ⟨j, by omega⟩) = p j (ix2 q 0) := by
  interval_cases j <;> pointwise [nineV]

end Cert.Final
-- ==== Proof.Places.lean ====
module

public import proofs.«01_k».proof.Proof.Final
public import Idealize.ShloMosaic.Lib.Routing.Words
public import Idealize.ShloMosaic.Lib.WordArith
public import Idealize.ShloMosaic.Lib.WordCmp
@[expose] public section

set_option maxRecDepth 16384

/-
  The 6144 places of the last step: three kept pairs for each of 2048 lanes, laid side by side, each with the number of its row.
-/
noncomputable section
namespace Cert.Places
open Idealize.ShloMosaic Idealize.ShloMosaic.Tactic Cert.KernelIdeal Cert.KernelIdeal.Gen Cert.Hold

/-- The lane a place belongs to. -/
def laneOf (p : Fin 6144) : Fin 2048 := ⟨p.val % 2048, Nat.mod_lt _ (by decide)⟩

/-- One of the three pairs of a lane: the first for the places below 2048, the second for the next 2048, the third for the rest. -/
def pairAt (p : Fin 6144) (H : Lanes.Pair × Lanes.Pair × Lanes.Pair) : Lanes.Pair :=
  if p.val < 2048 then H.1 else if p.val - 2048 < 2048 then H.2.1 else H.2.2

/-- A three-way ladder over three arrays is the array of the place's piece at the place's lane. -/
theorem ladder (a1 a2 a3 : Fin 2048 → EReal) (p : Fin 6144) :
    (if h : p.val < 2048 then a1 ⟨p.val, h⟩
      else if h : p.val - 2048 < 2048 then a2 ⟨p.val - 2048, h⟩ else a3 ⟨p.val - 2048 - 2048, by omega⟩) =
    if p.val < 2048 then a1 (laneOf p) else if p.val - 2048 < 2048 then a2 (laneOf p) else a3 (laneOf p) := by
  have hp := p.isLt
  by_cases h1 : p.val < 2048
  · rw [dif_pos h1, if_pos h1]
    exact congrArg a1 (Fin.ext (Nat.mod_eq_of_lt h1).symm)
  · rw [dif_neg h1, if_neg h1]
    by_cases h2 : p.val - 2048 < 2048
    · rw [dif_pos h2, if_pos h2]
      refine congrArg a2 (Fin.ext ?_)
      show p.val - 2048 = p.val % 2048
      omega
    · rw [dif_neg h2, if_neg h2]
      refine congrArg a3 (Fin.ext ?_)
      show p.val - 2048 - 2048 = p.val % 2048
      omega

/-- The scores side by side. -/
theorem pay17_at (a1 a2 a3 : Vec Ideal S256x2048 .f32) (q : Fin 256) (p : Fin 6144) :
    k0_pay17 a1 a2 a3 (ix2 q p) =
      if p.val < 2048 then a1 (ix2 q (laneOf p)) else if p.val - 2048 < 2048 then a2 (ix2 q (laneOf p)) else a3 (ix2 q (laneOf p)) := by
  pointwise [k0_pay17]
  exact ladder (fun l => a1 (ix2 q l)) (fun l => a2 (ix2 q l)) (fun l => a3 (ix2 q l)) p

/-- The lane number of a place, as the kernel reckons it in 32-bit words. -/
theorem lane_word (p : ℕ) (hp : p < 6144) :
    Scalar.select
          (IntOp.andi
            (IntOp.xori
              (IntOp.cmpi CmpIPredicate.slt
                (IntOp.remsi ArithUnit.vector (BitVec.ofNat 32 p)
                  (Scalar.select (Scalar.cmpi CmpIPredicate.eq 2048#32 0#32) 1#32 2048#32))
                0#32)
              (Scalar.cmpi CmpIPredicate.slt (Scalar.select (Scalar.cmpi CmpIPredicate.eq 2048#32 0#32) 1#32 2048#32)
                0#32))
            (IntOp.cmpi CmpIPredicate.ne
              (IntOp.remsi ArithUnit.vector (BitVec.ofNat 32 p)
                (Scalar.select (Scalar.cmpi CmpIPredicate.eq 2048#32 0#32) 1#32 2048#32))
              0#32))
          (IntOp.addi
            (IntOp.remsi ArithUnit.vector (BitVec.ofNat 32 p)
              (Scalar.select (Scalar.cmpi CmpIPredicate.eq 2048#32 0#32) 1#32 2048#32))
            (Scalar.select (Scalar.cmpi CmpIPredicate.eq 2048#32 0#32) 1#32 2048#32))
          (IntOp.remsi ArithUnit.vector (BitVec.ofNat 32 p)
            (Scalar.select (Scalar.cmpi CmpIPredicate.eq 2048#32 0#32) 1#32 2048#32)) = BitVec.ofNat 32 (p % 2048) := by
  have e : (Scalar.select (Scalar.cmpi CmpIPredicate.eq 2048#32 0#32) 1#32 2048#32) = BitVec.ofNat 32 2048 := by decide
  rw [e, Routing.remsi_word _ (by omega) (by decide) (by decide)]
  have hs : IntOp.cmpi CmpIPredicate.slt (BitVec.ofNat 32 (p % 2048)) 0#32 = 0#1 := by
    have h : p % 2048 < 2048 := Nat.mod_lt _ (by decide)
    generalize p % 2048 = n at h
    exact (WordCmp.cmpi_slt_ofNat (w := 32) (a := n) (b := 0) (by omega) (by decide)).trans (by simp)
  rw [hs]
  have hz : IntOp.xori (0#1) (Scalar.cmpi CmpIPredicate.slt (BitVec.ofNat 32 2048) 0#32) = 0#1 := by decide
  rw [hz]
  have ha : ∀ b : BitVec 1, IntOp.andi (0#1) b = 0#1 := by decide
  rw [ha]
  rfl

/-- The row number of a place: its block times 2048, and its lane. -/
theorem pay18_at (b1 b2 b3 : Vec Ideal S256x2048 .f32) (q : Fin 256) (p : Fin 6144) :
    k0_pay18 b1 b2 b3 (ix2 q p) =
      (if p.val < 2048 then b1 (ix2 q (laneOf p)) else if p.val - 2048 < 2048 then b2 (ix2 q (laneOf p)) else b3 (ix2 q (laneOf p))) *
        ((2048 : ℝ) : EReal) + (((laneOf p).val : ℕ) : EReal) := by
  pointwise [k0_pay18]
  rw [lane_word p.val p.isLt, Consts.two_thousand_forty_eight]
  rw [ladder (fun l => b1 (ix2 q l)) (fun l => b2 (ix2 q l)) (fun l => b3 (ix2 q l)) p]
  refine congrArg _ ?_
  have h : p.val % 2048 < 2048 := Nat.mod_lt _ (by decide)
  show (((BitVec.ofNat 32 (p.val % 2048)).toInt : ℝ) : EReal) = ((p.val % 2048 : ℕ) : EReal)
  rw [WordArith.toInt_ofNat_small _ (by omega), Int.cast_natCast, EReal.coe_natCast]

end Cert.Places
-- ==== Proof.Picks.lean ====
module

public import proofs.«01_k».proof.Proof.Places
@[expose] public section

set_option maxRecDepth 16384

/-
  What a run of 25 blocks writes: the numbers of the nine best rows, in order.
-/
noncomputable section
namespace Cert.Picks
open Idealize.ShloMosaic Idealize.ShloMosaic.Tactic Cert.KernelIdeal Cert.KernelIdeal.Gen Cert.Hold Cert.Final Cert.Places

variable (m : (ℓ : Loc nD τ sig) → Buf (Elt Ideal) ℓ) (d : Dev nD)

/-- The filler of the scratches is negative. -/
theorem filler_neg : filler < 0 := by
  unfold filler
  rw [Consts.minus_three]
  exact_mod_cast (by norm_num : (-3 : ℝ) < 0)

/-- The value a picked place is struck with is negative. -/
theorem low_neg : low < 0 := by
  unfold low
  rw [Consts.minus_five]
  exact_mod_cast (by norm_num : (-5 : ℝ) < 0)

/-- No row's number exceeds the number given to the places that are not at the top. -/
theorem le_big (r : ℕ) (hr : r < 100000) : (r : EReal) ≤ big := by
  unfold big
  rw [Consts.thousand_million, ← EReal.coe_natCast]
  refine EReal.coe_le_coe_iff.mpr ?_
  have : (r : ℝ) < 100000 := by exact_mod_cast hr
  linarith

/-- A row's number from its block of 2048 and its lane. -/
theorem number_eq (r l : ℕ) : ((r : ℕ) : EReal) * ((2048 : ℝ) : EReal) + ((l : ℕ) : EReal) = ((2048 * r + l : ℕ) : EReal) := by
  rw [← EReal.coe_natCast, ← EReal.coe_natCast, ← EReal.coe_natCast, ← EReal.coe_mul, ← EReal.coe_add]
  congr 1
  push_cast
  ring

/-- The place of a lane's first, second or third pair. -/
def placeOf (i : ℕ) (hi : i < 3) (l : Fin 2048) : Fin 6144 := ⟨2048 * i + l.val, by omega⟩

/-- The lane of the place of a lane's pair is that lane. -/
theorem laneOf_placeOf (i : ℕ) (hi : i < 3) (l : Fin 2048) : laneOf (placeOf i hi l) = l :=
  Fin.ext (by show (2048 * i + l.val) % 2048 = l.val; omega)

/-- The scores and row numbers of the places, from the pairs the lanes hold. -/
theorem places_at (t : Fin cfg0.N) (q : Fin 256) (p : Fin 6144) :
    k0_pay17 (outsAt0 m d t.val t.isLt).2.1 (outsAt0 m d t.val t.isLt).2.2.1 (outsAt0 m d t.val t.isLt).2.2.2.1 (ix2 q p) =
      (pairAt p (held m d t.val t.isLt q (laneOf p))).1 ∧
    k0_pay18 (outsAt0 m d t.val t.isLt).2.2.2.2.1 (outsAt0 m d t.val t.isLt).2.2.2.2.2.1 (outsAt0 m d t.val t.isLt).2.2.2.2.2.2 (ix2 q p) =
      (pairAt p (held m d t.val t.isLt q (laneOf p))).2 * ((2048 : ℝ) : EReal) + (((laneOf p).val : ℕ) : EReal) := by
  rw [pay17_at, pay18_at]
  unfold pairAt held
  split
  · exact ⟨rfl, rfl⟩
  split
  · exact ⟨rfl, rfl⟩
  · exact ⟨rfl, rfl⟩

/-- Let `S` be the scores of one query, `0` beyond row 99999, and `σ` its rows in descending order. If the ninth best score is
    positive and every lane has at most three of the rows that reach it, then the last point of a run of 25 blocks writes the numbers
    of the nine best rows. -/
theorem picks (t : Fin cfg0.N) (h1 : t.val % 25 = 24) (q : Fin 256) (S : ℕ → EReal)
    (hS : ∀ r, rowScore (V m d main_call0_v9) (V m d main_call0_v15) (half t) (query t q) r = S r)
    (hpad : ∀ r, 100000 ≤ r → S r ≤ 0) (σ : Fin 100000 → Fin 100000) (hσ : Rounds.Descends (fun n : Fin 100000 => S n.val) σ)
    (hpos : 0 < S (σ ⟨8, by decide⟩).val)
    (hlanes : ∀ l : Fin 2048, ((Finset.range 50).filter fun r => S (σ ⟨8, by decide⟩).val ≤ S (2048 * r + l.val)).card ≤ 3)
    (j : ℕ) (hj : j < 9) :
    (outsAt0 m d t.val t.isLt).1 (ix3 0 q ⟨j, by omega⟩) = (((σ ⟨j, by omega⟩).val : ℕ) : EReal) := by
  rw [out_eq m d t h1, outV_eq, nineV_at _ _ _ hj, pickV_at]
  have hplaces := places_at m d t q
  generalize k0_pay17 (outsAt0 m d t.val t.isLt).2.1 (outsAt0 m d t.val t.isLt).2.2.1 (outsAt0 m d t.val t.isLt).2.2.2.1 = v at hplaces ⊢
  generalize k0_pay18 (outsAt0 m d t.val t.isLt).2.2.2.2.1 (outsAt0 m d t.val t.isLt).2.2.2.2.2.1 (outsAt0 m d t.val t.isLt).2.2.2.2.2.2 = num at hplaces ⊢
  have hheld : ∀ l, held m d t.val t.isLt q l = Lanes.lane filler (fun r => S (2048 * r + l.val)) 25 := by
    intro l
    rw [held_eq m d t.val t.isLt q l, h1]
    congr 1
    funext r
    exact hS _
  have hkept := fun l p hp => Lanes.kept_iff filler (fun r => S (2048 * r + l.val)) _ (filler_neg.trans hpos) 25 (hlanes l) p hp
  refine Rounds.pick_left big low _ _ (fun n : Fin 100000 => S n.val) σ hσ 8 (by decide) (low_neg.trans hpos)
    (fun r => le_big r.val r.isLt) ?_ ?_ j (by omega)
  · intro r hr
    have hl : r.val % 2048 < 2048 := Nat.mod_lt _ (by decide)
    have hrow : 2048 * (r.val / 2048) + r.val % 2048 = r.val := Nat.div_add_mod _ _
    have hp : S (σ ⟨8, by decide⟩).val ≤ S (2048 * (r.val / 2048) + r.val % 2048) := by rw [hrow]; exact hr
    have hmem := (hkept ⟨r.val % 2048, hl⟩ (S (2048 * (r.val / 2048) + r.val % 2048), ((r.val / 2048 : ℕ) : EReal)) hp).mpr
      ⟨r.val / 2048, by have := r.isLt; omega, rfl⟩
    rw [← hheld] at hmem
    have hfin : ∀ i (hi : i < 3), pairAt (placeOf i hi ⟨r.val % 2048, hl⟩) (held m d t.val t.isLt q ⟨r.val % 2048, hl⟩) =
        (S (2048 * (r.val / 2048) + r.val % 2048), ((r.val / 2048 : ℕ) : EReal)) →
        ∃ p, v (ix2 q p) = S r.val ∧ num (ix2 q p) = ((r.val : ℕ) : EReal) := by
      intro i hi h
      refine ⟨placeOf i hi ⟨r.val % 2048, hl⟩, ?_, ?_⟩
      · rw [(hplaces _).1, laneOf_placeOf, h]
        show S _ = _
        rw [hrow]
      · rw [(hplaces _).2, laneOf_placeOf, h]
        show ((r.val / 2048 : ℕ) : EReal) * _ + ((r.val % 2048 : ℕ) : EReal) = _
        rw [number_eq, hrow]
    rcases hmem with h | h | h
    · exact hfin 0 (by decide) ((if_pos (show 2048 * 0 + r.val % 2048 < 2048 by omega)).trans h.symm)
    · exact hfin 1 (by decide) ((if_neg (show ¬ 2048 * 1 + r.val % 2048 < 2048 by omega)).trans
        ((if_pos (show 2048 * 1 + r.val % 2048 - 2048 < 2048 by omega)).trans h.symm))
    · exact hfin 2 (by decide) ((if_neg (show ¬ 2048 * 2 + r.val % 2048 < 2048 by omega)).trans
        ((if_neg (show ¬ 2048 * 2 + r.val % 2048 - 2048 < 2048 by omega)).trans h.symm))
  · intro p hp
    rw [(hplaces p).1] at hp
    have hmem : pairAt p (held m d t.val t.isLt q (laneOf p)) = (Lanes.lane filler (fun r => S (2048 * r + (laneOf p).val)) 25).1 ∨
        pairAt p (held m d t.val t.isLt q (laneOf p)) = (Lanes.lane filler (fun r => S (2048 * r + (laneOf p).val)) 25).2.1 ∨
        pairAt p (held m d t.val t.isLt q (laneOf p)) = (Lanes.lane filler (fun r => S (2048 * r + (laneOf p).val)) 25).2.2 := by
      rw [hheld]
      unfold pairAt
      split
      · exact .inl rfl
      split
      · exact .inr (.inl rfl)
      · exact .inr (.inr rfl)
    obtain ⟨r, hr, e⟩ := (hkept (laneOf p) _ hp).mp hmem
    have hlt : 2048 * r + (laneOf p).val < 100000 := by
      by_contra hge
      rw [e] at hp
      exact absurd (hpos.trans_le (hp.trans (hpad _ (not_lt.mp hge)))) (lt_irrefl _)
    refine ⟨⟨2048 * r + (laneOf p).val, hlt⟩, ?_, ?_⟩
    · rw [(hplaces p).1, e]
    · rw [(hplaces p).2, e]
      exact number_eq r _

end Cert.Picks
-- ==== Proof.Spec.lean ====
/- The reference program's arithmetic in named pieces: the scores of the query rows against a table, the nine places that
   `top_k` reports, and what is made of the two index arrays afterwards. -/
module

public import proofs.«01_k».proof.Proof.Gen.ReferenceIdeal.Run
public import Idealize.ShloMosaic.Lib.Pointwise

@[expose] public section

set_option maxRecDepth 16384

noncomputable section

namespace Cert.Spec

open Idealize.ShloMosaic Idealize.ShloMosaic.Tactic Idealize.ShloMosaic.TcCoe Cert.ReferenceIdeal Cert.ReferenceIdeal.Gen

/-- The query rows, each divided by its Euclidean length. -/
def normed (x : FVec Ideal S1024x32 .f32) : FVec Ideal S1024x32 .f32 :=
  Host.divf x (broadcastInDim S1024x32 ![0, 1] bcast_S1024x1_S1024x32_0_1 (Host.sqrt (broadcastInDim S1024x1 ![0] bcast_S1024_S1024x1_0
    (Host.reduceAdd (mulf x x) (constant S_ .f32 0x00000000#32) reducesTo_S1024x32_S1024_d1 h_S_))))

/-- The score of every table row for every query row. -/
def scores (x : FVec Ideal S1024x32 .f32) (T : FVec Ideal S100000x32 .f32) : FVec Ideal S1024x100000 .f32 :=
  Host.dotGeneral dot_S1024x32_S32x100000_S1024x100000_1_0_0_1_n_n none (normed x)
    (transpose S32x100000 [1, 0] T transposes_S100000x32_S32x100000_1_0)

/-- The nine best scores of each query row, and their places. -/
def best (x : FVec Ideal S1024x32 .f32) (T : FVec Ideal S100000x32 .f32) : FVec Ideal S1024x9 .f32 × IVec S1024x9 32 :=
  Host.topK S1024x9 1 (FloatOps.cmpfTotal .gt) (scores x T) sliceFits_S1024x100000_S1024x9

/-- The places with a negative one counted from the end, one to a row of a unit axis. -/
def wrapped (i : IVec S1024x9 32) : IVec S1024x9x1 32 :=
  broadcastInDim S1024x9x1 ![0, 1] bcast_S1024x9_S1024x9x1_0_1 (select (cmpi .slt i (broadcastInDim S1024x9 ![] bcast_S_S1024x9 (constantI S_ 32 0#32)))
    (addi i (broadcastInDim S1024x9 ![] bcast_S_S1024x9 (constantI S_ 32 100000#32))) i)

/-- The metric values at the given places. -/
def taken (a : FVec Ideal S100000 .f32) (i : IVec S1024x9 32) : FVec Ideal S1024x9 .f32 :=
  select (Host.reduce IntOp.andi (andi (cmpi .sge (wrapped i) (broadcastInDim S1024x9x1 ![] bcast_S_S1024x9x1 (constantI S_ 32 0#32)))
      (cmpi .sle (wrapped i) (broadcastInDim S1024x9x1 ![0, 1, 2] bcast_S1x1x1_S1024x9x1_0_1_2 (broadcastInDim S1x1x1 ![2] bcast_S1_S1x1x1_2 (constantI S1 32 99999#32)))))
      (constantI S_ 1 1#1) reducesTo_S1024x9x1_S1024x9_d2 h_S_)
    (Host.gather gather_S100000_S1024x9x1_S1024x9_n_0_n_n_0_2_1 a (wrapped i))
    (broadcastInDim S1024x9 ![] bcast_S_S1024x9 (constant S_ .f32 0x7FC00000#32))

/-- The metric values at two index arrays, alternating along a row. -/
def paired (a : FVec Ideal S100000 .f32) (i j : IVec S1024x9 32) : FVec Ideal S1024x18 .f32 :=
  shapeCast _ (concatenate S1024x9x2 2 [⟨S1024x9x1, broadcastInDim S1024x9x1 ![0, 1] bcast_S1024x9_S1024x9x1_0_1 (taken a i)⟩,
    ⟨S1024x9x1, broadcastInDim S1024x9x1 ![0, 1] bcast_S1024x9_S1024x9x1_0_1 (taken a j)⟩] concatenates_S1024x9x1_S1024x9x1_S1024x9x2_d2)
    shapeCasts_S1024x9x2_S1024x18

/-- The mean of each row of eighteen. -/
def mean (y : FVec Ideal S1024x18 .f32) : FVec Ideal S1024 .f32 :=
  Host.divf (Host.reduceAdd y (constant S_ .f32 0x00000000#32) reducesTo_S1024x18_S1024_d1 h_S_) (broadcastInDim S1024 ![] bcast_S_S1024 (constant S_ .f32 0x41900000#32))

variable (m : (ℓ : Loc nD τ sig) → Buf (Elt Ideal) ℓ) (c : Dev nD)

/-- The reference's second result: the metric values at the places of the nine best of the two halves. -/
theorem result1 : Value.res_main_v15 m c = paired (m ((c.tc : Thread nD τ).loc main_arg4))
    (best (m ((c.tc : Thread nD τ).loc main_arg0)) (m ((c.tc : Thread nD τ).loc main_arg2))).2
    (best (m ((c.tc : Thread nD τ).loc main_arg1)) (m ((c.tc : Thread nD τ).loc main_arg3))).2 := rfl

/-- The reference's first result: the means of its second. -/
theorem result0 : Value.res_main_v18 m c = mean (paired (m ((c.tc : Thread nD τ).loc main_arg4))
    (best (m ((c.tc : Thread nD τ).loc main_arg0)) (m ((c.tc : Thread nD τ).loc main_arg2))).2
    (best (m ((c.tc : Thread nD τ).loc main_arg1)) (m ((c.tc : Thread nD τ).loc main_arg3))).2) := rfl

/-- A score is the sum over the 32 columns. -/
theorem scores_at (x : FVec Ideal S1024x32 .f32) (T : FVec Ideal S100000x32 .f32) (q : Fin 1024) (r : Fin 100000) :
    scores x T (ix2 q r) = ∑ k : Fin 32, normed x (ix2 q k) * T (ix2 r k) := by
  unfold scores
  generalize normed x = y
  pointwise

end Cert.Spec

end
-- ==== Proof.Entry.lean ====
/- What the kernel's windows hold on entry: the normalised queries and the tables filled up with rows of zeros. -/
module

public import proofs.«01_k».proof.Proof.Hold
public import proofs.«01_k».proof.Proof.Spec
public import Idealize.ShloMosaic.Lib.StableHlo.ReadAt

@[expose] public section

set_option maxRecDepth 16384

noncomputable section

namespace Cert.Entry

open Idealize.ShloMosaic Idealize.ShloMosaic.Tactic Idealize.ShloMosaic.TcCoe Cert.KernelIdeal Cert.KernelIdeal.Gen

variable (m : (ℓ : Loc nD τ sig) → Buf (Elt Ideal) ℓ) (d : Dev nD)

/-- The query window's array is the two normalised query arrays, one behind the other. -/
theorem queries (b : Fin 2) (q : Fin 1024) (k : Fin 32) :
    (V m d main_call0_v9 : Vec Ideal S2x1024x32 .bf16) (ix3 b q k) =
      if b.val = 0 then Spec.normed (m (d.tc.loc main_arg0)) (ix2 q k) else Spec.normed (m (d.tc.loc main_arg1)) (ix2 q k) := by
  unfold V V0
  after_reads_at
  by_cases hb : b.val < 1
  · simp only [dif_pos hb, if_pos (show b.val = 0 by omega)]
    unfold Spec.normed
    after_reads_at
  · simp only [dif_neg hb, if_neg (show ¬ b.val = 0 by omega)]
    unfold Spec.normed
    after_reads_at

/-- The word zero as a number is zero. -/
theorem zero_at : (FloatOps.sitofp FTy.f32 0#32 : Ideal .f32) = (0 : EReal) := by
  show (((0#32 : BitVec 32).toInt : ℝ) : EReal) = 0
  simp

/-- The table window's array is the two tables, each followed by rows of zeros. -/
theorem tables (T0 T1 : Vec Ideal S100000x32 .f32) (h0 : m (d.tc.loc main_arg2) = T0) (h1 : m (d.tc.loc main_arg3) = T1) (b : Fin 2) (r : Fin 102400) (k : Fin 32) :
    (V m d main_call0_v15 : Vec Ideal S2x102400x32 .bf16) (ix3 b r k) =
      if h : r.val < 100000 then (if b.val = 0 then T0 (ix2 ⟨r, h⟩ k) else T1 (ix2 ⟨r, h⟩ k)) else (0 : EReal) := by
  unfold V V0
  after_reads_at
  by_cases hb : b.val < 1
  · simp only [dif_pos hb, if_pos (show b.val = 0 by omega)]
    after_reads_at
    rw [zero_at]; subst h0 h1; rfl
  · simp only [dif_neg hb, if_neg (show ¬ b.val = 0 by omega)]
    after_reads_at
    rw [zero_at]; subst h0 h1; rfl

end Cert.Entry

end
-- ==== Proof.Best.lean ====
/- The reference's `top_k` read at an index: the scores in descending order and where they come from. -/
module

public import proofs.«01_k».proof.Proof.Spec
public import proofs.«01_k».proof.Proof.Rounds

@[expose] public section

set_option maxRecDepth 16384

noncomputable section

namespace Cert.Best

open Idealize.ShloMosaic Idealize.ShloMosaic.Tactic Cert.ReferenceIdeal Cert.ReferenceIdeal.Gen

/-- The rows of the table in the order of their scores for one query row: greater first, equal scores by row. -/
def order (x : FVec Ideal S1024x32 .f32) (T : FVec Ideal S100000x32 .f32) (q : Fin 1024) : Fin 100000 → Fin 100000 :=
  sortedFrom fun b c : Fin 100000 => decide (Spec.scores x T (ix2 q c) < Spec.scores x T (ix2 q b))

/-- That order lists every row once, by descending score. -/
theorem descends (x : FVec Ideal S1024x32 .f32) (T : FVec Ideal S100000x32 .f32) (q : Fin 1024) :
    Rounds.Descends (fun n => Spec.scores x T (ix2 q n)) (order x T q) :=
  Rounds.descends_sortedFrom _

/-- The stable sort that `top_k` runs on a row of any array is the one by descending value. -/
theorem sorted_row (X : FVec Ideal S1024x100000 .f32) (q : Fin 1024) :
    (sortedFrom fun b c : Fin 100000 => FloatOps.cmpfTotal .gt (X (ix2 q b)) (X (ix2 q c)) == 1#1) =
      sortedFrom fun b c : Fin 100000 => decide (X (ix2 q c) < X (ix2 q b)) := by
  congr 1
  funext b c
  show (BitVec.ofBool (decide (X (ix2 q c) < X (ix2 q b))) == 1#1) = _
  cases decide (X (ix2 q c) < X (ix2 q b)) <;> rfl

/-- A place of row `q` with its column replaced by `k` is the place `(q, k)`. -/
theorem along_at (q : Fin 1024) (j k : Fin 100000) : (ix2 q j : S1024x100000.Idx).along 1 k = ix2 q k := by
  funext a
  match a with
  | 0 => rfl
  | 1 => rfl

/-- The two results of the sort that `top_k` runs, read at a place: both operands at the place the order names. -/
theorem sort2_at (X : FVec Ideal S1024x100000 .f32) (Y : IVec S1024x100000 32) (q : Fin 1024) (j : Fin 100000) :
    (Host.sort2 S1024x100000 1 (fun l r => FloatOps.cmpfTotal .gt l.1 r.1) X Y).1 (ix2 q j) =
        X (ix2 q ((sortedFrom fun b c : Fin 100000 => decide (X (ix2 q c) < X (ix2 q b))) j)) ∧
      (Host.sort2 S1024x100000 1 (fun l r => FloatOps.cmpfTotal .gt l.1 r.1) X Y).2 (ix2 q j) =
        Y (ix2 q ((sortedFrom fun b c : Fin 100000 => decide (X (ix2 q c) < X (ix2 q b))) j)) := by
  rw [← sorted_row]
  have hpos : ∀ k : Fin 100000, (sortedFrom fun b c : Fin 100000 =>
      FloatOps.cmpfTotal .gt (X ((ix2 q j : S1024x100000.Idx).along 1 b)) (X ((ix2 q j : S1024x100000.Idx).along 1 c)) == 1#1) k =
      (sortedFrom fun b c : Fin 100000 => FloatOps.cmpfTotal .gt (X (ix2 q b)) (X (ix2 q c)) == 1#1) k := fun k => by
    simp only [along_at]
  unfold Host.sort2
  rw [dif_pos (by decide)]
  exact ⟨congrArg X ((along_at q j _).trans (congrArg (ix2 q) (hpos j))), congrArg Y ((along_at q j _).trans (congrArg (ix2 q) (hpos j)))⟩

/-- `top_k`'s value `j` of a row is the value at the `j`-th place of the row's descending order. -/
theorem topK_at (X : FVec Ideal S1024x100000 .f32) (q : Fin 1024) (j : Fin 9) :
    (Host.topK S1024x9 1 (FloatOps.cmpfTotal .gt) X sliceFits_S1024x100000_S1024x9).1 (ix2 q j) =
      X (ix2 q ((sortedFrom fun b c : Fin 100000 => decide (X (ix2 q c) < X (ix2 q b))) ⟨j.val, by omega⟩)) := by
  unfold Host.topK
  dsimp only
  pointwise
  exact (sort2_at X _ q _).1

/-- `top_k`'s index `j` of a row is the `j`-th place of the row's descending order. -/
theorem topK_idx_at (X : FVec Ideal S1024x100000 .f32) (q : Fin 1024) (j : Fin 9) :
    (Host.topK S1024x9 1 (FloatOps.cmpfTotal .gt) X sliceFits_S1024x100000_S1024x9).2 (ix2 q j) =
      BitVec.ofNat 32 ((sortedFrom fun b c : Fin 100000 => decide (X (ix2 q c) < X (ix2 q b))) ⟨j.val, by omega⟩).val := by
  unfold Host.topK
  dsimp only
  pointwise
  refine ((sort2_at X _ q ⟨j.val, by omega⟩).2).trans ?_
  generalize (sortedFrom fun b c : Fin 100000 => decide (X (ix2 q c) < X (ix2 q b))) ⟨j.val, by omega⟩ = s
  exact congrArg (BitVec.ofNat 32) (show ((ix2 q s : S1024x100000.Idx) 1).val = s.val from rfl)

/-- The reference's index `j` for query row `q` is the `j`-th row of the order. -/
theorem best_at (x : FVec Ideal S1024x32 .f32) (T : FVec Ideal S100000x32 .f32) (q : Fin 1024) (j : Fin 9) :
    (Spec.best x T).2 (ix2 q j) = BitVec.ofNat 32 (order x T q ⟨j.val, by omega⟩).val :=
  topK_idx_at _ q j

end Cert.Best

end
-- ==== Proof.PreRead.lean ====
/- The precondition read: for every query row the ninth best score is positive, and no lane of the table holds more than
   three rows that reach it. -/
module

public import proofs.«01_k».proof.Proof.Best
public import proofs.«01_k».proof.Defs
public import Idealize.ShloMosaic.Lib.IndicatorCount
public import Idealize.ShloMosaic.Lib.WordArith

@[expose] public section

set_option maxRecDepth 16384

noncomputable section

namespace Cert.PreRead

open Idealize.ShloMosaic Idealize.ShloMosaic.Tactic Cert.Pre_lanes_hold_the_nine_best Cert.Pre_lanes_hold_the_nine_best.Facts

/-- The shape relations of the precondition's operations. -/
instance facts : Cert.Pre_lanes_hold_the_nine_best.Facts where
  reducesTo_S1024x32_S1024_d1 := by decide
  h_S_ := by decide
  bcast_S1024_S1024x1_0 := by decide
  bcast_S1024x1_S1024x32_0_1 := by decide
  transposes_S100000x32_S32x100000_1_0 := by decide
  sliceFits_S1024x100000_S1024x9 := by decide
  slices_S1024x9_S1024x1_0_8 := by decide
  bcast_S1024x1_S1024x100000_0_1 := by decide
  natLt_1_32 := by decide
  pads_S1024x100000_S1024x100352_000_03520 := by decide +kernel
  shapeCasts_S1024x100352_S1024x49x2048 := by decide +kernel
  reducesTo_S1024x49x2048_S1024x2048_d1 := by decide
  bcast_S_S1024x1 := by decide
  bcast_S_S1024x2048 := by decide
  bcast_S1024x1_S1024x2048_0_1 := by decide
  dot_S1024x32_S32x100000_S1024x100000_1_0_0_1_n_n_wf := by decide

/-- The ninth best value of each row. -/
def ninth (X : FVec Ideal S1024x100000 .f32) : FVec Ideal S1024x1 .f32 :=
  extractStridedSlice S1024x1 ![0, 8] (Host.topK S1024x9 1 (FloatOps.cmpfTotal .gt) X sliceFits_S1024x100000_S1024x9).1 slices_S1024x9_S1024x1_0_8

/-- For each row and lane, how many of the lane's places hold a value that reaches the bar. -/
def counts (X : FVec Ideal S1024x100000 .f32) (n : FVec Ideal S1024x1 .f32) : IVec S1024x2048 32 :=
  Host.reduce IntOp.addi (shapeCast S1024x49x2048 (pad S1024x100352 ![0, 0] ![0, 352] ![0, 0]
    (extui 32 (cmpf .oge X (broadcastInDim S1024x100000 ![0, 1] bcast_S1024x1_S1024x100000_0_1 n)) natLt_1_32) (constantI S_ 32 0#32)
    pads_S1024x100000_S1024x100352_000_03520 h_S_) shapeCasts_S1024x100352_S1024x49x2048) (constantI S_ 32 0#32) reducesTo_S1024x49x2048_S1024x2048_d1 h_S_

/-- For each row and lane: the bar is positive, and at most three of the lane's places reach it. -/
def good (X : FVec Ideal S1024x100000 .f32) : IVec S1024x2048 1 :=
  andi (broadcastInDim S1024x2048 ![0, 1] bcast_S1024x1_S1024x2048_0_1 (cmpf .ogt (ninth X) (broadcastInDim S1024x1 ![] bcast_S_S1024x1 (constant S_ .f32 0x00000000#32))))
    (cmpi .sle (counts X (ninth X)) (broadcastInDim S1024x2048 ![] bcast_S_S1024x2048 (constantI S_ 32 3#32)))

/-- The precondition's first array is that statement of the first half's scores. -/
theorem fn_fst (x0 x1 : FVec Ideal S1024x32 .f32) (T0 T1 : FVec Ideal S100000x32 .f32) (a : FVec Ideal S100000 .f32) :
    (fn x0 x1 T0 T1 a).1 = good (Spec.scores x0 T0) := rfl

/-- The precondition's second array is that statement of the second half's scores. -/
theorem fn_snd (x0 x1 : FVec Ideal S1024x32 .f32) (T0 T1 : FVec Ideal S100000x32 .f32) (a : FVec Ideal S100000 .f32) :
    (fn x0 x1 T0 T1 a).2 = good (Spec.scores x1 T1) := rfl

/-- Place `l` of block `r` is a row of the table whose value reaches the bar `n`. -/
def Reaches (X : FVec Ideal S1024x100000 .f32) (n : EReal) (q : Fin 1024) (l : Fin 2048) (r : Fin 49) : Prop :=
  ∃ h : r.val * 2048 + l.val < 100000, n ≤ (X (ix2 q ⟨r.val * 2048 + l.val, h⟩) : EReal)

open scoped Classical in
/-- The number of the lane's blocks whose place reaches the bar. -/
def reached (X : FVec Ideal S1024x100000 .f32) (n : EReal) (q : Fin 1024) (l : Fin 2048) : Finset (Fin 49) :=
  Finset.univ.filter (Reaches X n q l)

/-- Membership there is reaching the bar. -/
theorem mem_reached (X : FVec Ideal S1024x100000 .f32) (n : EReal) (q : Fin 1024) (l : Fin 2048) (r : Fin 49) :
    r ∈ reached X n q l ↔ Reaches X n q l r := by
  classical
  exact Finset.mem_filter.trans (and_iff_right (Finset.mem_univ r))

/-- A count is the number of the lane's blocks whose place in the table holds a value that reaches the bar, as a word. -/
theorem counts_at (X : FVec Ideal S1024x100000 .f32) (n : FVec Ideal S1024x1 .f32) (q : Fin 1024) (l : Fin 2048) :
    counts X n (ix2 q l) = BitVec.ofNat 32 (reached X (n (ix2 q 0)) q l).card := by
  unfold counts
  pointwise
  refine Eq.trans ?_ ((IndicatorCount.fold_addi_setWidth_eq_card (w := 32) (fun r : Fin 49 =>
    if h : r.val * 2048 + l.val < 100000 then BitVec.ofBool (decide (n (ix2 q 0) ≤ X (ix2 q ⟨r.val * 2048 + l.val, h⟩))) else 0#1) Finset.univ).trans ?_)
  · refine congrArg (fun f => Finset.fold IntOp.addi (0#32) f (Finset.univ : Finset (Fin 49))) (funext fun r => ?_)
    by_cases h : r.val * 2048 + l.val < 100000
    · rw [dif_pos h, dif_pos h]; rfl
    · rw [dif_neg h, dif_neg h]; rfl
  · refine congrArg (fun s : Finset (Fin 49) => BitVec.ofNat 32 s.card) (Finset.ext fun r => ?_)
    rw [mem_reached, Finset.mem_filter]
    refine (and_iff_right (Finset.mem_univ r)).trans ?_
    unfold Reaches
    by_cases h : r.val * 2048 + l.val < 100000
    · rw [dif_pos h]
      by_cases hx : n (ix2 q 0) ≤ X (ix2 q ⟨r.val * 2048 + l.val, h⟩)
      · rw [decide_eq_true hx]
        exact ⟨fun _ => ⟨h, hx⟩, fun _ => rfl⟩
      · rw [decide_eq_false hx]
        exact ⟨fun e => absurd e (by decide), fun ⟨_, h'⟩ => absurd h' hx⟩
    · rw [dif_neg h]
      exact ⟨fun e => absurd e (by decide), fun ⟨h', _⟩ => absurd h' h⟩

/-- A word that counts at most 49 things and is at most three counts at most three. -/
theorem count_le (c : ℕ) (hc : c ≤ 49) (h : IntOp.cmpi .sle (BitVec.ofNat 32 c) 3#32 = 1#1) : c ≤ 3 := by
  interval_cases c <;> first | omega | exact absurd h (by decide)

/-- The ninth best value of a row is the value at the ninth place of its order. -/
theorem ninth_at (X : FVec Ideal S1024x100000 .f32) (q : Fin 1024) :
    ninth X (ix2 q 0) = X (ix2 q ((sortedFrom fun b c : Fin 100000 => decide (X (ix2 q c) < X (ix2 q b))) ⟨8, by decide⟩)) := by
  unfold ninth
  generalize hY : (Host.topK S1024x9 1 (FloatOps.cmpfTotal .gt) X sliceFits_S1024x100000_S1024x9).1 = Y
  pointwise
  rw [← hY]
  exact Best.topK_at X q 8

/-- Where the precondition's bit is set, the row's ninth best value is positive and at most three of the lane's places reach it. -/
theorem good_at (X : FVec Ideal S1024x100000 .f32) (q : Fin 1024) (l : Fin 2048) (h : good X (ix2 q l) = 1#1) :
    0 < ninth X (ix2 q 0) ∧ (reached X (ninth X (ix2 q 0)) q l).card ≤ 3 := by
  have h' : IntOp.andi (BitVec.ofBool (decide (0 < ninth X (ix2 q 0)))) (IntOp.cmpi .sle (counts X (ninth X) (ix2 q l)) 3#32) = 1#1 := by
    revert h
    unfold good
    generalize counts X (ninth X) = C
    generalize ninth X = n
    pointwise
    exact id
  rw [counts_at] at h'
  have hand : ∀ a b : BitVec 1, IntOp.andi a b = 1#1 → a = 1#1 ∧ b = 1#1 := by decide
  obtain ⟨h1, h2⟩ := hand _ _ h'
  refine ⟨?_, count_le _ ((Finset.card_le_univ _).trans (by simp)) h2⟩
  by_contra hn
  rw [decide_eq_false hn] at h1
  exact absurd h1 (by decide)

/-- The scores of a query row by row number, zero beyond the table. -/
def padded (x : FVec Ideal S1024x32 .f32) (T : FVec Ideal S100000x32 .f32) (q : Fin 1024) (r : ℕ) : EReal :=
  if h : r < 100000 then Spec.scores x T (ix2 q ⟨r, h⟩) else 0

/-- The precondition for one half: the ninth best score is positive, and of the fifty places of a lane at most three reach it. -/
theorem bar (x : FVec Ideal S1024x32 .f32) (T : FVec Ideal S100000x32 .f32) (h : good (Spec.scores x T) = fun _ => 1#1) (q : Fin 1024) :
    0 < padded x T q (Best.order x T q ⟨8, by decide⟩).val ∧ ∀ l : Fin 2048,
      ((Finset.range 50).filter fun r => padded x T q (Best.order x T q ⟨8, by decide⟩).val ≤ padded x T q (2048 * r + l.val)).card ≤ 3 := by
  have hθ : padded x T q (Best.order x T q ⟨8, by decide⟩).val = ninth (Spec.scores x T) (ix2 q 0) := by
    rw [ninth_at, padded, dif_pos (Best.order x T q ⟨8, by decide⟩).isLt, Fin.eta, Best.order]
  rw [hθ]
  have hg := fun l => good_at (Spec.scores x T) q l (congrFun h _)
  refine ⟨(hg 0).1, fun l => le_trans ?_ (hg l).2⟩
  rw [← Finset.card_map Fin.valEmbedding]
  refine Finset.card_le_card fun r hr => ?_
  obtain ⟨hr1, hr2⟩ := Finset.mem_filter.mp hr
  have hlt : 2048 * r + l.val < 100000 := by
    by_contra hn
    rw [padded, dif_neg hn] at hr2
    exact absurd (hg 0).1 (not_lt.mpr hr2)
  rw [padded, dif_pos hlt] at hr2
  refine Finset.mem_map.mpr ⟨⟨r, by omega⟩, (mem_reached _ _ _ _ _).mpr ⟨?_, ?_⟩, rfl⟩
  · show r * 2048 + l.val < 100000
    omega
  · refine hr2.trans (le_of_eq (congrArg (fun n => Spec.scores x T (ix2 q n)) (Fin.ext ?_)))
    show 2048 * r + l.val = r * 2048 + l.val
    omega

end Cert.PreRead

end
-- ==== Proof.Array.lean ====
/- The array the kernel's pipelined region leaves: for each half and each query row, the numbers of the nine best rows. -/
module

public import proofs.«01_k».proof.Proof.Picks
public import proofs.«01_k».proof.Proof.Entry
public import proofs.«01_k».proof.Proof.PreRead
public import Idealize.ShloMosaic.Lib.Pipeline.ValueKit

@[expose] public section

set_option maxRecDepth 16384

noncomputable section

namespace Cert.Array

open Idealize.ShloMosaic Idealize.ShloMosaic.Tactic Idealize.ShloMosaic.TcCoe Cert.KernelIdeal Cert.KernelIdeal.Gen Cert.Hold

/-- One of two things by half. -/
def pick {α : Type} (b : Fin 2) (x y : α) : α := if b.val = 0 then x else y

variable (m : (ℓ : Loc nD τ sig) → Buf (Elt Ideal) ℓ) (d : Dev nD)
  (x0 x1 : FVec Ideal S1024x32 .f32) (T0 T1 : FVec Ideal S100000x32 .f32)

/-- The kernel's score of a row is the reference's, and zero for a row beyond the table. -/
theorem row_scores (hx0 : m (d.tc.loc main_arg0) = x0) (hx1 : m (d.tc.loc main_arg1) = x1)
    (hT0 : m (d.tc.loc main_arg2) = T0) (hT1 : m (d.tc.loc main_arg3) = T1) (b : Fin 2) (q : Fin 1024) (r : ℕ) :
    rowScore (V m d main_call0_v9) (V m d main_call0_v15) b q r = PreRead.padded (pick b x0 x1) (pick b T0 T1) q r := by
  unfold rowScore PreRead.padded
  by_cases h : r < 102400
  · rw [dif_pos h]
    by_cases h' : r < 100000
    · rw [dif_pos h', Spec.scores_at]
      refine Finset.sum_congr rfl fun k _ => ?_
      rw [Entry.queries, Entry.tables m d T0 T1 hT0 hT1, dif_pos h', hx0, hx1]
      unfold pick
      split <;> rfl
    · rw [dif_neg h']
      refine Finset.sum_eq_zero fun k _ => ?_
      rw [Entry.tables m d T0 T1 hT0 hT1, dif_neg h']
      exact mul_zero (M₀ := EReal) _
  · rw [dif_neg h, dif_neg (by omega)]

/-- Under the precondition the point that ends a run writes the numbers of its queries' nine best rows. -/
theorem point (hx0 : m (d.tc.loc main_arg0) = x0) (hx1 : m (d.tc.loc main_arg1) = x1)
    (hT0 : m (d.tc.loc main_arg2) = T0) (hT1 : m (d.tc.loc main_arg3) = T1)
    (hg : ∀ b : Fin 2, PreRead.good (Spec.scores (pick b x0 x1) (pick b T0 T1)) = fun _ => 1#1)
    (t : Fin cfg0.N) (h1 : t.val % 25 = 24) (q : Fin 256) (j : ℕ) (hj : j < 9) :
    (outsAt0 m d t.val t.isLt).1 (ix3 0 q ⟨j, by omega⟩) =
      (((Best.order (pick (half t) x0 x1) (pick (half t) T0 T1) (query t q) ⟨j, by omega⟩).val : ℕ) : EReal) := by
  have hb := PreRead.bar (pick (half t) x0 x1) (pick (half t) T0 T1) (hg (half t)) (query t q)
  refine Picks.picks m d t h1 q (PreRead.padded (pick (half t) x0 x1) (pick (half t) T0 T1) (query t q))
    (row_scores m d x0 x1 T0 T1 hx0 hx1 hT0 hT1 (half t) (query t q)) (fun r hr => ?_) _ ?_ hb.1 hb.2 j hj
  · rw [PreRead.padded, dif_neg (by omega)]
  · have e : (fun n : Fin 100000 => PreRead.padded (pick (half t) x0 x1) (pick (half t) T0 T1) (query t q) n.val) =
        fun n => Spec.scores (pick (half t) x0 x1) (pick (half t) T0 T1) (ix2 (query t q) n) :=
      funext fun n => by rw [PreRead.padded, dif_pos n.isLt]
    rw [e]
    exact Best.descends _ _ _

/-- The block of the result a point writes: its half and its block of queries. -/
theorem index2 : ∀ t : Fin cfg0.N, win0_2.index t = ![t.val / 100, t.val / 25 % 4, 0] := by decide +kernel

/-- Under the precondition the region's array holds, in its first nine columns, the numbers of the nine best rows. -/
theorem array (hx0 : m (d.tc.loc main_arg0) = x0) (hx1 : m (d.tc.loc main_arg1) = x1)
    (hT0 : m (d.tc.loc main_arg2) = T0) (hT1 : m (d.tc.loc main_arg3) = T1)
    (hg : ∀ b : Fin 2, PreRead.good (Spec.scores (pick b x0 x1) (pick b T0 T1)) = fun _ => 1#1)
    (b : Fin 2) (q : Fin 1024) (j : Fin 9) :
    ((dats m 0 d).arrAt 2 cfg0.N : Vec Ideal S2x1024x16 .f32) (ix3 b q ⟨j.val, by omega⟩) =
      (((Best.order (pick b x0 x1) (pick b T0 T1) q ⟨j.val, by omega⟩).val : ℕ) : EReal) := by
  refine (dats m 0 d).arrAt_forall_of_covers 2
    (fun (i : S2x1024x16.Idx) (v : EReal) => ∀ h : (i 2).val < 9,
      v = (((Best.order (pick (i 0) x0 x1) (pick (i 0) T0 T1) (i 1) ⟨(i 2).val, by omega⟩).val : ℕ) : EReal))
    (by decide +kernel) (fun t hf y => ?_) (ix3 b q ⟨j.val, by omega⟩) (Memref.isWhole_whole _) j.isLt
  have h1 : t.val % 25 = 24 := (flush0_2 t).mp hf
  intro h
  blk_simp
  rw [after0_2]
  have hy : (y : S1x256x16.Idx) = ix3 0 (y 1) ⟨(y 2).val, (y 2).isLt⟩ := by
    funext a
    match a with
    | 0 => exact Subsingleton.elim (α := Fin 1) _ _
    | 1 => rfl
    | 2 => rfl
  have h2 : (y 2).val < 9 := by
    have h' := h
    blk_simp [index2] at h'
    omega
  have e0 : (((win0_2.blk t).view.emb y) 0 : Fin 2) = half t := Fin.ext (by blk_simp [index2, half])
  have e1 : (((win0_2.blk t).view.emb y) 1 : Fin 1024) = query t (y 1) := Fin.ext (by blk_simp [index2, query]; show t.val / 25 % 4 * 256 + (y 1).val = 256 * (t.val / 25 % 4) + (y 1).val; omega)
  have e2 : win0_2.index t 2 * 16 + (y 2).val = (y 2).val := by rw [index2]; simp
  refine (congrArg (outsAt0 m d t.val t.isLt).1 hy).trans ((point m d x0 x1 T0 T1 hx0 hx1 hT0 hT1 hg t h1 (y 1) (y 2).val h2).trans ?_)
  rw [e0, e1]
  exact congrArg (fun n : Fin 100000 => (((Best.order (pick (half t) x0 x1) (pick (half t) T0 T1) (query t (y 1)) n).val : ℕ) : EReal)) (Fin.ext e2.symm)

end Cert.Array

end
-- ==== Proof.Tail.lean ====
/- What the kernel program makes of its region's array: the metric values at the two index arrays, and their means. -/
module

public import proofs.«01_k».proof.Proof.Gen.KernelIdeal.Frame
public import proofs.«01_k».proof.Proof.Spec
public import Idealize.ShloMosaic.Lib.StableHlo.RunRead
public import Idealize.ShloMosaic.Lib.Pipeline.ValueKit

@[expose] public section

set_option maxRecDepth 16384

noncomputable section

namespace Cert.Tail

open Idealize.ShloMosaic Idealize.ShloMosaic.Tactic Idealize.ShloMosaic.TcCoe Idealize.ShloMosaic.StableHlo Cert.KernelIdeal Cert.KernelIdeal.Gen

/-- The first half's index array: the region's first nine columns as integers. -/
def places0 (W : FVec Ideal S2x1024x16 .f32) : IVec S1024x9 32 :=
  shapeCast _ (extractStridedSlice S1x1024x9 ![0, 0, 0] (fptosi 32 (extractStridedSlice S2x1024x9 ![0, 0, 0] W slices_S2x1024x16_S2x1024x9_0_0_0)) slices_S2x1024x9_S1x1024x9_0_0_0) shapeCasts_S1x1024x9_S1024x9

/-- The second half's index array. -/
def places1 (W : FVec Ideal S2x1024x16 .f32) : IVec S1024x9 32 :=
  shapeCast _ (extractStridedSlice S1x1024x9 ![1, 0, 0] (fptosi 32 (extractStridedSlice S2x1024x9 ![0, 0, 0] W slices_S2x1024x16_S2x1024x9_0_0_0)) slices_S2x1024x9_S1x1024x9_1_0_0) shapeCasts_S1x1024x9_S1024x9

variable (A : Valuation τ sig (Elt Ideal))

set_option maxHeartbeats 4000000 in
/-- The line after the region leaves the metric values at the two index arrays. -/
theorem values (W : FVec Ideal S2x1024x16 .f32) (a : FVec Ideal S100000 .f32)
    (hW : A (Proc.devRef .tc main_call0_v16) = W) (ha : A (Proc.devRef .tc main_arg4) = a) :
    StableHlo.after hostOps1 A (Proc.devRef .tc main_v0_1) = Spec.paired a (places0 W) (places1 W) := by
  subst hW ha
  after_reads_simp
  simp -implicitDefEqProofs only [StableHlo.TRef.toBuf, StableHlo.TRef.ofBuf, cast_cast, cast_eq]
  rfl

set_option maxHeartbeats 4000000 in
/-- The line after the region leaves their means. -/
theorem means (W : FVec Ideal S2x1024x16 .f32) (a : FVec Ideal S100000 .f32)
    (hW : A (Proc.devRef .tc main_call0_v16) = W) (ha : A (Proc.devRef .tc main_arg4) = a) :
    StableHlo.after hostOps1 A (Proc.devRef .tc main_v0_0) = Spec.mean (Spec.paired a (places0 W) (places1 W)) := by
  subst hW ha
  after_reads_simp
  simp -implicitDefEqProofs only [StableHlo.TRef.toBuf, StableHlo.TRef.ofBuf, cast_cast, cast_eq]
  rfl

end Cert.Tail

end
-- ==== Proof.Indices.lean ====
/- Under the precondition the kernel's two index arrays are the reference's. -/
module

public import proofs.«01_k».proof.Proof.Array
public import proofs.«01_k».proof.Proof.Tail

@[expose] public section

set_option maxRecDepth 16384

noncomputable section

namespace Cert.Indices

open Idealize.ShloMosaic Idealize.ShloMosaic.Tactic Idealize.ShloMosaic.TcCoe Cert.KernelIdeal Cert.KernelIdeal.Gen

/-- A row number as an ideal float, converted to an integer, is the row number as a word. -/
theorem convert (n : Fin 100000) (v : Ideal .f32) (hv : v = (((n.val : ℕ) : EReal) : EReal)) : FloatOps.fptosi 32 v = BitVec.ofNat 32 n.val := by
  subst hv
  show Ideal.fptosi 32 (((n.val : ℕ) : EReal)) = _
  have e : ((n.val : ℕ) : EReal) = (((n.val : ℕ) : ℝ) : EReal) := by simp
  have hn := n.isLt
  rw [e]
  unfold Ideal.fptosi Ideal.toIntClamped
  show BitVec.ofInt 32 (max _ (min _ (if (0 : ℝ) ≤ ((n.val : ℕ) : ℝ) then ⌊((n.val : ℕ) : ℝ)⌋ else ⌈((n.val : ℕ) : ℝ)⌉))) = _
  rw [if_pos (Nat.cast_nonneg _), Int.floor_natCast, min_eq_right (by norm_num; omega), max_eq_right (by norm_num)]
  exact BitVec.ofInt_natCast 32 n.val

/-- The first half's index array at a place. -/
theorem places0_at (W : FVec Ideal S2x1024x16 .f32) (q : Fin 1024) (j : Fin 9) :
    Tail.places0 W (ix2 q j) = FloatOps.fptosi 32 (W (ix3 0 q ⟨j.val, by omega⟩)) := by
  unfold Tail.places0
  pointwise

/-- The second half's index array at a place. -/
theorem places1_at (W : FVec Ideal S2x1024x16 .f32) (q : Fin 1024) (j : Fin 9) :
    Tail.places1 W (ix2 q j) = FloatOps.fptosi 32 (W (ix3 1 q ⟨j.val, by omega⟩)) := by
  unfold Tail.places1
  pointwise

variable (m : (ℓ : Loc nD τ sig) → Buf (Elt Ideal) ℓ) (d : Dev nD)
  (x0 x1 : FVec Ideal S1024x32 .f32) (T0 T1 : FVec Ideal S100000x32 .f32)

/-- Under the precondition the kernel's two index arrays are the reference's. -/
theorem places (hx0 : m (d.tc.loc main_arg0) = x0) (hx1 : m (d.tc.loc main_arg1) = x1)
    (hT0 : m (d.tc.loc main_arg2) = T0) (hT1 : m (d.tc.loc main_arg3) = T1)
    (hg0 : PreRead.good (Spec.scores x0 T0) = fun _ => 1#1) (hg1 : PreRead.good (Spec.scores x1 T1) = fun _ => 1#1) :
    Tail.places0 ((dats m 0 d).arrAt 2 cfg0.N) = (Spec.best x0 T0).2 ∧ Tail.places1 ((dats m 0 d).arrAt 2 cfg0.N) = (Spec.best x1 T1).2 := by
  have hg : ∀ b : Fin 2, PreRead.good (Spec.scores (Array.pick b x0 x1) (Array.pick b T0 T1)) = fun _ => 1#1 := fun b => by
    match b with
    | 0 => exact hg0
    | 1 => exact hg1
  have h := Array.array m d x0 x1 T0 T1 hx0 hx1 hT0 hT1 hg
  constructor
  · funext i
    obtain ⟨q, j, rfl⟩ : ∃ (q : Fin 1024) (j : Fin 9), i = ix2 q j := ⟨i 0, i 1, eq_ix2 i⟩
    rw [places0_at, Best.best_at]
    exact convert _ _ (h 0 q j)
  · funext i
    obtain ⟨q, j, rfl⟩ : ∃ (q : Fin 1024) (j : Fin 9), i = ix2 q j := ⟨i 0, i 1, eq_ix2 i⟩
    rw [places1_at, Best.best_at]
    exact convert _ _ (h 1 q j)

end Cert.Indices

end
-- ==== Proof.Ends.lean ====
/- What the kernel program's two results are after a run, from the array of its region. -/
module

public import proofs.«01_k».proof.Proof.Tail

@[expose] public section

set_option maxRecDepth 16384

noncomputable section

namespace Cert.Ends

open Idealize.ShloMosaic Idealize.ShloMosaic.Tactic Idealize.ShloMosaic.TcCoe Idealize.ShloMosaic.StableHlo Idealize.SL.Sem Cert.KernelIdeal Cert.KernelIdeal.Gen

variable (m : (ℓ : Loc nD τ sig) → Buf (Elt Ideal) ℓ) (ρ : Dev nD → PrngReg)

/-- The contents that the line after the region starts from: the region's array at the output, the metric array as it was. -/
theorem start (c : Dev nD) :
    Pipeline.withArrays (cfgs 0).spec c (V0 m c) (fun w => (dats m 0 c).arrAt w (cfgs 0).N) (Proc.devRef .tc main_call0_v16) =
        (dats m 0 c).arrAt 2 cfg0.N ∧
      Pipeline.withArrays (cfgs 0).spec c (V0 m c) (fun w => (dats m 0 c).arrAt w (cfgs 0).N) (Proc.devRef .tc main_arg4) =
        m ((c.tc : Thread nD τ).loc main_arg4) := by
  constructor
  · exact Pipeline.withArrays_arr (cfgs 0).spec (by decide) c _ _ 2
  · refine (Pipeline.withArrays_of_ne (cfgs 0).spec c _ _ main_arg4 (by decide)).trans ?_
    unfold V0
    after_reads_simp

/-- Every run ends with the two results made of the region's array. -/
theorem ends : θ_run defs (onTc (τ := τ) (main (F := Ideal))) ⟨m, fun _ => 0, ρ⟩ (fun r => ∀ c : Dev nD,
      r.2.mem ((c.tc : Thread nD τ).loc main_v0_0) = Spec.mean (Spec.paired (m ((c.tc : Thread nD τ).loc main_arg4))
        (Tail.places0 ((dats m 0 c).arrAt 2 cfg0.N)) (Tail.places1 ((dats m 0 c).arrAt 2 cfg0.N)))
      ∧ r.2.mem ((c.tc : Thread nD τ).loc main_v0_1) = Spec.paired (m ((c.tc : Thread nD τ).loc main_arg4))
        (Tail.places0 ((dats m 0 c).arrAt 2 cfg0.N)) (Tail.places1 ((dats m 0 c).arrAt 2 cfg0.N))) :=
  (θ_run defs _ _).mono (fun r h c =>
    ⟨(h.rest_eq c main_v0_0 (by decide)).trans (Tail.means _ _ _ (start m c).1 (start m c).2),
      (h.rest_eq c main_v0_1 (by decide)).trans (Tail.values _ _ _ (start m c).1 (start m c).2)⟩) (run_main m ρ)

end Cert.Ends

end
-- ==== Proof.lean ====
/-
  The proof of `Cert.Claim`: the frames of the kernel at the machine's words and at ideal values and of the reference, the
  idealization, which rewrote nothing, and the equality of both results with the reference's at ideal values, for arguments
  whose nine best rows the kernel's lanes can hold.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Indices
public import proofs.«01_k».proof.Proof.Ends
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.TcCoe

/-- The reference's frame: its run ends with the arguments unchanged, and it declares no semaphore. -/
theorem reference_frame : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run m ρ)

/-- The values: both programs end with the metric values at the nine best rows of the two halves, and with their means. -/
theorem values : Cert.algebraic_KernelIdeal_ReferenceIdeal_pre_lanes_hold_the_nine_best := by
  intro m g m' g' hpre hagree
  have hplaces := fun c : Dev Cert.KernelIdeal.nD =>
    Cert.Indices.places m c _ _ _ _ rfl rfl rfl rfl ((Cert.PreRead.fn_fst _ _ _ _ _).symm.trans (hpre c).1) ((Cert.PreRead.fn_snd _ _ _ _ _).symm.trans (hpre c).2)
  refine ⟨fun c => Cert.Spec.mean (Cert.Spec.paired (m (c.tc.loc Cert.KernelIdeal.main_arg4))
      (Cert.Spec.best (m (c.tc.loc Cert.KernelIdeal.main_arg0)) (m (c.tc.loc Cert.KernelIdeal.main_arg2))).2
      (Cert.Spec.best (m (c.tc.loc Cert.KernelIdeal.main_arg1)) (m (c.tc.loc Cert.KernelIdeal.main_arg3))).2),
    fun c => Cert.Spec.paired (m (c.tc.loc Cert.KernelIdeal.main_arg4))
      (Cert.Spec.best (m (c.tc.loc Cert.KernelIdeal.main_arg0)) (m (c.tc.loc Cert.KernelIdeal.main_arg2))).2
      (Cert.Spec.best (m (c.tc.loc Cert.KernelIdeal.main_arg1)) (m (c.tc.loc Cert.KernelIdeal.main_arg3))).2, ?_, ?_⟩
  · refine (θ_run Cert.KernelIdeal.defs _ _).mono (fun r h c => ⟨?_, ?_, h.2 c⟩) (θ_run_and (Cert.Ends.ends m g) (Cert.KernelIdeal.Gen.unchanged m g))
    · rw [(h.1 c).1, (hplaces c).1, (hplaces c).2]
    · rw [(h.1 c).2, (hplaces c).1, (hplaces c).2]
  · refine (θ_run Cert.ReferenceIdeal.defs _ _).mono (fun r h c => ⟨(h c).1.trans ?_, (h c).2.1.trans ?_, (h c).2.2⟩) (Cert.ReferenceIdeal.Value.run m' g')
    · rw [Cert.Spec.result0, (hagree c).1, (hagree c).2.1, (hagree c).2.2.1, (hagree c).2.2.2.1, (hagree c).2.2.2.2]
    · rw [Cert.Spec.result1, (hagree c).1, (hagree c).2.1, (hagree c).2.2.1, (hagree c).2.2.2.1, (hagree c).2.2.2.2]

/-- Every claim of this certificate. -/
theorem claim : Cert.Claim :=
  ⟨Cert.Kernel.Gen.facts, Cert.KernelIdeal.Gen.facts, Cert.ReferenceIdeal.Gen.facts, Cert.PreRead.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, values⟩

end Cert.Proof

end
